-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![1024, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1024 : Shape := ⟨2, ![128, 1024]⟩
abbrev S1024x1024 : Shape := ⟨2, ![1024, 1024]⟩
abbrev S1024x128 : Shape := ⟨2, ![1024, 128]⟩
abbrev S8x128x128 : Shape := ⟨3, ![8, 128, 128]⟩
abbrev S7 : Shape := ⟨1, ![7]⟩
abbrev S8 : Shape := ⟨1, ![8]⟩
abbrev S_ : Shape := ⟨0, ![]⟩
abbrev S128x128 : Shape := ⟨2, ![128, 128]⟩
abbrev S1x128x128 : Shape := ⟨3, ![1, 128, 128]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S128x1024, .bf16⟩
  | .hbm, ⟨1, _⟩ => ⟨S1024x1024, .bf16⟩
  | .hbm, ⟨2, _⟩ => ⟨S1024x128, .bf16⟩
  | .local _ .vmem, ⟨0, _⟩ => ⟨S128x1024, .bf16⟩
  | .local _ .vmem, ⟨1, _⟩ => ⟨S1024x1024, .bf16⟩
  | .local _ .vmem, ⟨2, _⟩ => ⟨S1024x128, .bf16⟩
  | .local _ .vmem, ⟨3, _⟩ => ⟨S8x128x128, .bf16⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v146 : BitVec 32 := Scalar.muli v2 c128_i32
  let c0_i32_95 : BitVec 32 := 0#32
  ![v146.toNat, 0]
def k0_off3 (d0 : Dev nD) (c1_i32_85 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v135 : BitVec 32 := Scalar.addi v2 c1_i32_85
  let c8_i32_86 : BitVec 32 := 8#32
  let c0_i32_87 : BitVec 32 := 0#32
  let v136 : BitVec 1 := Scalar.cmpi .eq c8_i32_86 c0_i32_87
  let c1_i32_88 : BitVec 32 := 1#32
  let v137 : BitVec 32 := Scalar.select v136 c1_i32_88 c8_i32_86
  let v138 : BitVec 32 := Scalar.remsi v135 v137
  let c0_i32_90 : BitVec 32 := 0#32
  let v140 : BitVec 1 := Scalar.cmpi .slt v138 c0_i32_90
  let c0_i32_91 : BitVec 32 := 0#32
  let v141 : BitVec 1 := Scalar.cmpi .slt v137 c0_i32_91
  let v142 : BitVec 1 := Scalar.xori v140 v141
  let c0_i32_89 : BitVec 32 := 0#32
  let v139 : BitVec 1 := Scalar.cmpi .ne v138 c0_i32_89
  let v143 : BitVec 1 := Scalar.andi v142 v139
  let v144 : BitVec 32 := Scalar.addi v138 v137
  let v145 : BitVec 32 := Scalar.select v143 v144 v138
  let c0_i32_96 : BitVec 32 := 0#32
  let c0_i32_97 : BitVec 32 := 0#32
  ![v145.toNat, 0, 0]
def k0_dev8 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_85 : BitVec 32 := 1#32
  let v135 : BitVec 32 := Scalar.addi v2 c1_i32_85
  let c8_i32_86 : BitVec 32 := 8#32
  let c0_i32_87 : BitVec 32 := 0#32
  let v136 : BitVec 1 := Scalar.cmpi .eq c8_i32_86 c0_i32_87
  let c1_i32_88 : BitVec 32 := 1#32
  let v137 : BitVec 32 := Scalar.select v136 c1_i32_88 c8_i32_86
  let v138 : BitVec 32 := Scalar.remsi v135 v137
  let c0_i32_90 : BitVec 32 := 0#32
  let v140 : BitVec 1 := Scalar.cmpi .slt v138 c0_i32_90
  let c0_i32_91 : BitVec 32 := 0#32
  let v141 : BitVec 1 := Scalar.cmpi .slt v137 c0_i32_91
  let v142 : BitVec 1 := Scalar.xori v140 v141
  let c0_i32_89 : BitVec 32 := 0#32
  let v139 : BitVec 1 := Scalar.cmpi .ne v138 c0_i32_89
  let v143 : BitVec 1 := Scalar.andi v142 v139
  let v144 : BitVec 32 := Scalar.addi v138 v137
  let v145 : BitVec 32 := Scalar.select v143 v144 v138
  let c1_i32_93 : BitVec 32 := 1#32
  let v147 : BitVec 32 := Scalar.muli v145 c1_i32_93
  let v148 : BitVec 32 := Scalar.addi c0_i32_94 v147
  v148.toNat
def k0_dev9 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_98 : BitVec 32 := 2#32
  let v156 : BitVec 32 := Scalar.addi v2 c2_i32_98
  let c8_i32_99 : BitVec 32 := 8#32
  let c0_i32_100 : BitVec 32 := 0#32
  let v157 : BitVec 1 := Scalar.cmpi .eq c8_i32_99 c0_i32_100
  let c1_i32_101 : BitVec 32 := 1#32
  let v158 : BitVec 32 := Scalar.select v157 c1_i32_101 c8_i32_99
  let v159 : BitVec 32 := Scalar.remsi v156 v158
  let c0_i32_103 : BitVec 32 := 0#32
  let v161 : BitVec 1 := Scalar.cmpi .slt v159 c0_i32_103
  let c0_i32_104 : BitVec 32 := 0#32
  let v162 : BitVec 1 := Scalar.cmpi .slt v158 c0_i32_104
  let v163 : BitVec 1 := Scalar.xori v161 v162
  let c0_i32_102 : BitVec 32 := 0#32
  let v160 : BitVec 1 := Scalar.cmpi .ne v159 c0_i32_102
  let v164 : BitVec 1 := Scalar.andi v163 v160
  let v165 : BitVec 32 := Scalar.addi v159 v158
  let v166 : BitVec 32 := Scalar.select v164 v165 v159
  let c1_i32_107 : BitVec 32 := 1#32
  let v168 : BitVec 32 := Scalar.muli v166 c1_i32_107
  let v169 : BitVec 32 := Scalar.addi c0_i32_108 v168
  v169.toNat
def k0_dev10 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_112 : BitVec 32 := 3#32
  let v177 : BitVec 32 := Scalar.addi v2 c3_i32_112
  let c8_i32_113 : BitVec 32 := 8#32
  let c0_i32_114 : BitVec 32 := 0#32
  let v178 : BitVec 1 := Scalar.cmpi .eq c8_i32_113 c0_i32_114
  let c1_i32_115 : BitVec 32 := 1#32
  let v179 : BitVec 32 := Scalar.select v178 c1_i32_115 c8_i32_113
  let v180 : BitVec 32 := Scalar.remsi v177 v179
  let c0_i32_117 : BitVec 32 := 0#32
  let v182 : BitVec 1 := Scalar.cmpi .slt v180 c0_i32_117
  let c0_i32_118 : BitVec 32 := 0#32
  let v183 : BitVec 1 := Scalar.cmpi .slt v179 c0_i32_118
  let v184 : BitVec 1 := Scalar.xori v182 v183
  let c0_i32_116 : BitVec 32 := 0#32
  let v181 : BitVec 1 := Scalar.cmpi .ne v180 c0_i32_116
  let v185 : BitVec 1 := Scalar.andi v184 v181
  let v186 : BitVec 32 := Scalar.addi v180 v179
  let v187 : BitVec 32 := Scalar.select v185 v186 v180
  let c1_i32_121 : BitVec 32 := 1#32
  let v189 : BitVec 32 := Scalar.muli v187 c1_i32_121
  let v190 : BitVec 32 := Scalar.addi c0_i32_122 v189
  v190.toNat
def k0_dev11 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_126 : BitVec 32 := 4#32
  let v198 : BitVec 32 := Scalar.addi v2 c4_i32_126
  let c8_i32_127 : BitVec 32 := 8#32
  let c0_i32_128 : BitVec 32 := 0#32
  let v199 : BitVec 1 := Scalar.cmpi .eq c8_i32_127 c0_i32_128
  let c1_i32_129 : BitVec 32 := 1#32
  let v200 : BitVec 32 := Scalar.select v199 c1_i32_129 c8_i32_127
  let v201 : BitVec 32 := Scalar.remsi v198 v200
  let c0_i32_131 : BitVec 32 := 0#32
  let v203 : BitVec 1 := Scalar.cmpi .slt v201 c0_i32_131
  let c0_i32_132 : BitVec 32 := 0#32
  let v204 : BitVec 1 := Scalar.cmpi .slt v200 c0_i32_132
  let v205 : BitVec 1 := Scalar.xori v203 v204
  let c0_i32_130 : BitVec 32 := 0#32
  let v202 : BitVec 1 := Scalar.cmpi .ne v201 c0_i32_130
  let v206 : BitVec 1 := Scalar.andi v205 v202
  let v207 : BitVec 32 := Scalar.addi v201 v200
  let v208 : BitVec 32 := Scalar.select v206 v207 v201
  let c1_i32_135 : BitVec 32 := 1#32
  let v210 : BitVec 32 := Scalar.muli v208 c1_i32_135
  let v211 : BitVec 32 := Scalar.addi c0_i32_136 v210
  v211.toNat
def k0_dev12 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_140 : BitVec 32 := 5#32
  let v219 : BitVec 32 := Scalar.addi v2 c5_i32_140
  let c8_i32_141 : BitVec 32 := 8#32
  let c0_i32_142 : BitVec 32 := 0#32
  let v220 : BitVec 1 := Scalar.cmpi .eq c8_i32_141 c0_i32_142
  let c1_i32_143 : BitVec 32 := 1#32
  let v221 : BitVec 32 := Scalar.select v220 c1_i32_143 c8_i32_141
  let v222 : BitVec 32 := Scalar.remsi v219 v221
  let c0_i32_145 : BitVec 32 := 0#32
  let v224 : BitVec 1 := Scalar.cmpi .slt v222 c0_i32_145
  let c0_i32_146 : BitVec 32 := 0#32
  let v225 : BitVec 1 := Scalar.cmpi .slt v221 c0_i32_146
  let v226 : BitVec 1 := Scalar.xori v224 v225
  let c0_i32_144 : BitVec 32 := 0#32
  let v223 : BitVec 1 := Scalar.cmpi .ne v222 c0_i32_144
  let v227 : BitVec 1 := Scalar.andi v226 v223
  let v228 : BitVec 32 := Scalar.addi v222 v221
  let v229 : BitVec 32 := Scalar.select v227 v228 v222
  let c1_i32_149 : BitVec 32 := 1#32
  let v231 : BitVec 32 := Scalar.muli v229 c1_i32_149
  let v232 : BitVec 32 := Scalar.addi c0_i32_150 v231
  v232.toNat
def k0_dev13 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_154 : BitVec 32 := 6#32
  let v240 : BitVec 32 := Scalar.addi v2 c6_i32_154
  let c8_i32_155 : BitVec 32 := 8#32
  let c0_i32_156 : BitVec 32 := 0#32
  let v241 : BitVec 1 := Scalar.cmpi .eq c8_i32_155 c0_i32_156
  let c1_i32_157 : BitVec 32 := 1#32
  let v242 : BitVec 32 := Scalar.select v241 c1_i32_157 c8_i32_155
  let v243 : BitVec 32 := Scalar.remsi v240 v242
  let c0_i32_159 : BitVec 32 := 0#32
  let v245 : BitVec 1 := Scalar.cmpi .slt v243 c0_i32_159
  let c0_i32_160 : BitVec 32 := 0#32
  let v246 : BitVec 1 := Scalar.cmpi .slt v242 c0_i32_160
  let v247 : BitVec 1 := Scalar.xori v245 v246
  let c0_i32_158 : BitVec 32 := 0#32
  let v244 : BitVec 1 := Scalar.cmpi .ne v243 c0_i32_158
  let v248 : BitVec 1 := Scalar.andi v247 v244
  let v249 : BitVec 32 := Scalar.addi v243 v242
  let v250 : BitVec 32 := Scalar.select v248 v249 v243
  let c1_i32_163 : BitVec 32 := 1#32
  let v252 : BitVec 32 := Scalar.muli v250 c1_i32_163
  let v253 : BitVec 32 := Scalar.addi c0_i32_164 v252
  v253.toNat
def k0_dev14 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_168 : BitVec 32 := 7#32
  let v261 : BitVec 32 := Scalar.addi v2 c7_i32_168
  let c8_i32_169 : BitVec 32 := 8#32
  let c0_i32_170 : BitVec 32 := 0#32
  let v262 : BitVec 1 := Scalar.cmpi .eq c8_i32_169 c0_i32_170
  let c1_i32_171 : BitVec 32 := 1#32
  let v263 : BitVec 32 := Scalar.select v262 c1_i32_171 c8_i32_169
  let v264 : BitVec 32 := Scalar.remsi v261 v263
  let c0_i32_173 : BitVec 32 := 0#32
  let v266 : BitVec 1 := Scalar.cmpi .slt v264 c0_i32_173
  let c0_i32_174 : BitVec 32 := 0#32
  let v267 : BitVec 1 := Scalar.cmpi .slt v263 c0_i32_174
  let v268 : BitVec 1 := Scalar.xori v266 v267
  let c0_i32_172 : BitVec 32 := 0#32
  let v265 : BitVec 1 := Scalar.cmpi .ne v264 c0_i32_172
  let v269 : BitVec 1 := Scalar.andi v268 v265
  let v270 : BitVec 32 := Scalar.addi v264 v263
  let v271 : BitVec 32 := Scalar.select v269 v270 v264
  let c1_i32_177 : BitVec 32 := 1#32
  let v273 : BitVec 32 := Scalar.muli v271 c1_i32_177
  let v274 : BitVec 32 := Scalar.addi c0_i32_178 v273
  v274.toNat
def k0_off4 (d0 : Dev nD) (c1_i32_198 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v306 : BitVec 32 := Scalar.subi v2 c1_i32_198
  let c8_i32_199 : BitVec 32 := 8#32
  let c0_i32_200 : BitVec 32 := 0#32
  let v307 : BitVec 1 := Scalar.cmpi .eq c8_i32_199 c0_i32_200
  let c1_i32_201 : BitVec 32 := 1#32
  let v308 : BitVec 32 := Scalar.select v307 c1_i32_201 c8_i32_199
  let v309 : BitVec 32 := Scalar.remsi v306 v308
  let c0_i32_203 : BitVec 32 := 0#32
  let v311 : BitVec 1 := Scalar.cmpi .slt v309 c0_i32_203
  let c0_i32_204 : BitVec 32 := 0#32
  let v312 : BitVec 1 := Scalar.cmpi .slt v308 c0_i32_204
  let v313 : BitVec 1 := Scalar.xori v311 v312
  let c0_i32_202 : BitVec 32 := 0#32
  let v310 : BitVec 1 := Scalar.cmpi .ne v309 c0_i32_202
  let v314 : BitVec 1 := Scalar.andi v313 v310
  let v315 : BitVec 32 := Scalar.addi v309 v308
  let v316 : BitVec 32 := Scalar.select v314 v315 v309
  ![v316.toNat]
def k0_off5 (d0 : Dev nD) (c1_i32_198 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v306 : BitVec 32 := Scalar.subi v2 c1_i32_198
  let c8_i32_199 : BitVec 32 := 8#32
  let c0_i32_200 : BitVec 32 := 0#32
  let v307 : BitVec 1 := Scalar.cmpi .eq c8_i32_199 c0_i32_200
  let c1_i32_201 : BitVec 32 := 1#32
  let v308 : BitVec 32 := Scalar.select v307 c1_i32_201 c8_i32_199
  let v309 : BitVec 32 := Scalar.remsi v306 v308
  let c0_i32_203 : BitVec 32 := 0#32
  let v311 : BitVec 1 := Scalar.cmpi .slt v309 c0_i32_203
  let c0_i32_204 : BitVec 32 := 0#32
  let v312 : BitVec 1 := Scalar.cmpi .slt v308 c0_i32_204
  let v313 : BitVec 1 := Scalar.xori v311 v312
  let c0_i32_202 : BitVec 32 := 0#32
  let v310 : BitVec 1 := Scalar.cmpi .ne v309 c0_i32_202
  let v314 : BitVec 1 := Scalar.andi v313 v310
  let v315 : BitVec 32 := Scalar.addi v309 v308
  let v316 : BitVec 32 := Scalar.select v314 v315 v309
  let c128_i32_205 : BitVec 32 := 128#32
  let v317 : BitVec 32 := Scalar.muli v316 c128_i32_205
  let c0_i32_209 : BitVec 32 := 0#32
  ![v317.toNat, 0]
def k0_off6 (d0 : Dev nD) (c1_i32_198 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v306 : BitVec 32 := Scalar.subi v2 c1_i32_198
  let c8_i32_199 : BitVec 32 := 8#32
  let c0_i32_200 : BitVec 32 := 0#32
  let v307 : BitVec 1 := Scalar.cmpi .eq c8_i32_199 c0_i32_200
  let c1_i32_201 : BitVec 32 := 1#32
  let v308 : BitVec 32 := Scalar.select v307 c1_i32_201 c8_i32_199
  let v309 : BitVec 32 := Scalar.remsi v306 v308
  let c0_i32_203 : BitVec 32 := 0#32
  let v311 : BitVec 1 := Scalar.cmpi .slt v309 c0_i32_203
  let c0_i32_204 : BitVec 32 := 0#32
  let v312 : BitVec 1 := Scalar.cmpi .slt v308 c0_i32_204
  let v313 : BitVec 1 := Scalar.xori v311 v312
  let c0_i32_202 : BitVec 32 := 0#32
  let v310 : BitVec 1 := Scalar.cmpi .ne v309 c0_i32_202
  let v314 : BitVec 1 := Scalar.andi v313 v310
  let v315 : BitVec 32 := Scalar.addi v309 v308
  let v316 : BitVec 32 := Scalar.select v314 v315 v309
  let c0_i32_210 : BitVec 32 := 0#32
  let c0_i32_211 : BitVec 32 := 0#32
  ![v316.toNat, 0, 0]
abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Places.lean ====
/-
The places the kernel touches, as sets of coordinates.

The eight devices are numbered round a ring: hop `d` (`0 … 6`) leads from device `c` to device `fwd c d`, which is `d + 1`
places on, and comes to `c` from device `bwd c d`, which is `d + 1` places back. The send buffer is eight slots of
`128 × 128`, one per receiving device; the output block is eight bands of 128 rows, one per sending device. This file
says which elements each of the printed slices names, and how the printed words of offsets, targets and semaphores read
in those terms.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ValueIdx
public import Idealize.ShloMosaic.Lib.ValueLayout
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.ValueIdx

variable {F : FTy → Type} [FloatOps F]

/-! ## Hops round the ring -/

set_option backward.proofsInPublic true in
/-- The device `d + 1` places after `c`. -/
def fwd (c : Dev nD) (d : Fin 7) : Dev nD := ⟨(c.val + d.val + 1) % 8, Nat.mod_lt _ (by decide)⟩

set_option backward.proofsInPublic true in
/-- The device `d + 1` places before `c`. -/
def bwd (c : Dev nD) (d : Fin 7) : Dev nD := ⟨(c.val + 7 - d.val) % 8, Nat.mod_lt _ (by decide)⟩

/-- Going `d + 1` places back and then on again returns to the start. -/
theorem fwd_bwd (c : Dev nD) (d : Fin 7) : fwd (bwd c d) d = c := by revert c d; decide
/-- Going `d + 1` places on and then back again returns to the start. -/
theorem bwd_fwd (c : Dev nD) (d : Fin 7) : bwd (fwd c d) d = c := by revert c d; decide
/-- No hop leads to the device it starts from. -/
theorem fwd_ne (c : Dev nD) (d : Fin 7) : fwd c d ≠ c := by revert c d; decide
/-- No hop comes from the device it leads to. -/
theorem bwd_ne (c : Dev nD) (d : Fin 7) : bwd c d ≠ c := by revert c d; decide
/-- Different hops lead to different devices. -/
theorem fwd_inj (c : Dev nD) (d e : Fin 7) : fwd c d = fwd c e → d = e := by revert c d e; decide
/-- Different hops come from different devices. -/
theorem bwd_inj (c : Dev nD) (d e : Fin 7) : bwd c d = bwd c e → d = e := by revert c d e; decide
/-- Every other device is reached by some hop. -/
theorem exists_fwd (c s : Dev nD) : s ≠ c → ∃ d, fwd c d = s := by revert c s; decide
/-- Every other device comes by some hop. -/
theorem exists_bwd (c s : Dev nD) : s ≠ c → ∃ d, bwd c d = s := by revert c s; decide

/-- Hop `d` as a permutation of the devices. -/
def hop (d : Fin 7) : Dev nD ≃ Dev nD := ⟨fun c => fwd c d, fun c => bwd c d, fun c => bwd_fwd c d, fun c => fwd_bwd c d⟩

/-! ## The printed words -/

/-- The seven signals go to the seven other devices, in the order of the hops. -/
theorem dev1_eq (c : Dev nD) : (⟨k0_dev1 c, k0_dev1_lt c⟩ : Dev nD) = fwd c 0 := by revert c; decide +kernel
theorem dev2_eq (c : Dev nD) : (⟨k0_dev2 c, k0_dev2_lt c⟩ : Dev nD) = fwd c 1 := by revert c; decide +kernel
theorem dev3_eq (c : Dev nD) : (⟨k0_dev3 c, k0_dev3_lt c⟩ : Dev nD) = fwd c 2 := by revert c; decide +kernel
theorem dev4_eq (c : Dev nD) : (⟨k0_dev4 c, k0_dev4_lt c⟩ : Dev nD) = fwd c 3 := by revert c; decide +kernel
theorem dev5_eq (c : Dev nD) : (⟨k0_dev5 c, k0_dev5_lt c⟩ : Dev nD) = fwd c 4 := by revert c; decide +kernel
theorem dev6_eq (c : Dev nD) : (⟨k0_dev6 c, k0_dev6_lt c⟩ : Dev nD) = fwd c 5 := by revert c; decide +kernel
theorem dev7_eq (c : Dev nD) : (⟨k0_dev7 c, k0_dev7_lt c⟩ : Dev nD) = fwd c 6 := by revert c; decide +kernel
/-- The seven transfers go to the seven other devices, in the order of the hops. -/
theorem dev8_eq (c : Dev nD) : (⟨k0_dev8 c, k0_dev8_lt c⟩ : Dev nD) = fwd c 0 := by revert c; decide +kernel
theorem dev9_eq (c : Dev nD) : (⟨k0_dev9 c, k0_dev9_lt c⟩ : Dev nD) = fwd c 1 := by revert c; decide +kernel
theorem dev10_eq (c : Dev nD) : (⟨k0_dev10 c, k0_dev10_lt c⟩ : Dev nD) = fwd c 2 := by revert c; decide +kernel
theorem dev11_eq (c : Dev nD) : (⟨k0_dev11 c, k0_dev11_lt c⟩ : Dev nD) = fwd c 3 := by revert c; decide +kernel
theorem dev12_eq (c : Dev nD) : (⟨k0_dev12 c, k0_dev12_lt c⟩ : Dev nD) = fwd c 4 := by revert c; decide +kernel
theorem dev13_eq (c : Dev nD) : (⟨k0_dev13 c, k0_dev13_lt c⟩ : Dev nD) = fwd c 5 := by revert c; decide +kernel
theorem dev14_eq (c : Dev nD) : (⟨k0_dev14 c, k0_dev14_lt c⟩ : Dev nD) = fwd c 6 := by revert c; decide +kernel

/-- Hop `d`'s transfer reads the slot kept for the device it leads to. -/
theorem off3_eq (c : Dev nD) (d : Fin 7) : k0_off3 c (BitVec.ofNat 32 (1 + d.val)) = ![(fwd c d).val, 0, 0] := by
  revert c d; decide +kernel
/-- Hop `d`'s arrival is awaited on the semaphore of the device it comes from. -/
theorem off4_eq (c : Dev nD) (d : Fin 7) : k0_off4 c (BitVec.ofNat 32 (1 + d.val)) = ![(bwd c d).val] := by
  revert c d; decide +kernel
/-- Hop `d`'s arrival fills the band of the device it comes from. -/
theorem off5_eq (c : Dev nD) (d : Fin 7) : k0_off5 c (BitVec.ofNat 32 (1 + d.val)) = ![128 * (bwd c d).val, 0] := by
  revert c d; decide +kernel

/-- The condition the kernel tests before copying its own slot: that the device's number is `j`. -/
theorem own_cond (c : Dev nD) (j : Fin 8) :
    Scalar.cmpi .ne (Scalar.extui (Scalar.cmpi .eq (Scalar.remsi (Scalar.divsi (Dev.word c) 1#32) 8#32) (BitVec.ofNat 32 j.val)) : BitVec 32) 0#32 = 1#1
      ↔ c = j := by
  revert c j; decide +kernel

/-! ## Semaphores -/

/-- The semaphore of the hop-`d` transfer's source side. -/
theorem sendSem_eq (d : Fin 7) (inb : ∀ a, (![d.val] : Fin 1 → ℕ) a + S1.size a ≤ S7.size a) :
    ((cc0_scratch1.slice (Rect.unit (s := S7) ![d.val] S1.size inb)).squeeze S_ squeezes_S1_S_).sem = (⟨d.val + 3, by have := d.isLt; show _ < 18; omega⟩ : DmaSem sig) := by
  revert d; decide +kernel
/-- The semaphore of the arrivals from device `s`. -/
theorem recvSem_eq (s : Dev nD) (inb : ∀ a, (![s.val] : Fin 1 → ℕ) a + S1.size a ≤ S8.size a) :
    ((cc0_scratch2.slice (Rect.unit (s := S8) ![s.val] S1.size inb)).squeeze S_ squeezes_S1_S_).sem = (⟨s.val + 10, by have := s.isLt; show _ < 18; have : s.val < 8 := s.isLt; omega⟩ : DmaSem sig) := by
  revert s; decide +kernel

/-! ## The send buffer's slots and the output block's bands -/

/-- The elements of slot `j` of the send buffer. -/
def slotSet (j : Dev nD) : Finset S8x128x128.Idx := Finset.univ.filter fun i => (i 0).val = j.val
/-- The elements of band `s` of the output block. -/
def rowSet (s : Dev nD) : Finset S1024x128.Idx := Finset.univ.filter fun i => (i 0).val / 128 = s.val

theorem mem_slotSet (j : Dev nD) (i : S8x128x128.Idx) : i ∈ slotSet j ↔ (i 0).val = j.val := by
  unfold slotSet; rw [Finset.mem_filter]; exact ⟨fun h => h.2, fun h => ⟨Finset.mem_univ _, h⟩⟩
theorem mem_rowSet (s : Dev nD) (i : S1024x128.Idx) : i ∈ rowSet s ↔ (i 0).val / 128 = s.val := by
  unfold rowSet; rw [Finset.mem_filter]; exact ⟨fun h => h.2, fun h => ⟨Finset.mem_univ _, h⟩⟩

/-- Different slots share no element. -/
theorem slot_disjoint (j k : Dev nD) (h : j ≠ k) : Disjoint (slotSet j) (slotSet k) :=
  Finset.disjoint_left.2 fun i hi hk => h (Fin.ext (((mem_slotSet j i).1 hi).symm.trans ((mem_slotSet k i).1 hk)))
/-- Different bands share no element. -/
theorem row_disjoint (j k : Dev nD) (h : j ≠ k) : Disjoint (rowSet j) (rowSet k) :=
  Finset.disjoint_left.2 fun i hi hk => h (Fin.ext (((mem_rowSet j i).1 hi).symm.trans ((mem_rowSet k i).1 hk)))
/-- The slots make up the send buffer. -/
theorem slot_cover : (Finset.univ : Finset (Dev nD)).biUnion slotSet = Finset.univ :=
  Finset.eq_univ_of_forall fun i => Finset.mem_biUnion.2 ⟨(i 0 : Fin 8), Finset.mem_univ _, (mem_slotSet _ i).2 rfl⟩
/-- The bands make up the output block. -/
theorem row_cover : (Finset.univ : Finset (Dev nD)).biUnion rowSet = Finset.univ :=
  Finset.eq_univ_of_forall fun i => Finset.mem_biUnion.2
    ⟨⟨(i 0).val / 128, by have h : (i 0).val < 1024 := (i 0).isLt; show _ < 8; omega⟩, Finset.mem_univ _, (mem_rowSet _ i).2 rfl⟩

/-- The send buffer, and the output block's staging buffer. -/
abbrev sM : Memref sig .tc .vmem S8x128x128 .bf16 := Memref.whole cc0_scratch0
abbrev oM : Memref sig .tc .vmem S1024x128 .bf16 := Memref.whole cc0_stg2_0

/-- The printed slot at offsets `off`, its leading axis dropped. -/
abbrev slotM (off : Fin 3 → ℕ) (inb : ∀ a, off a + S1x128x128.size a ≤ S8x128x128.size a) : Memref sig .tc .vmem S128x128 .bf16 :=
  (sM.slice (Rect.unit (s := S8x128x128) off S1x128x128.size inb) (fun _ => rfl)).squeeze S128x128 squeezes_S1x128x128_S128x128
/-- The printed band at offsets `off`. -/
abbrev rowM (off : Fin 2 → ℕ) (inb : ∀ a, off a + S128x128.size a ≤ S1024x128.size a) : Memref sig .tc .vmem S128x128 .bf16 :=
  oM.slice (Rect.unit (s := S1024x128) off S128x128.size inb) (fun _ => rfl)

/-- A coordinate of a unit-stride rectangle's element: the offset added. -/
theorem unit_emb_val {s : Shape} (off size : Fin s.rank → ℕ) (inb : ∀ a, off a + size a ≤ s.size a)
    (z : (Rect.unit off size inb).shape.Idx) (a : Fin s.rank) : ((Rect.unit off size inb).emb z a).val = off a + (z a).val := by
  show off a + 1 * (z a).val = _
  rw [Nat.one_mul]

/-- Two indices of the send buffer with the same three coordinates are equal. -/
theorem ext3 (i k : S8x128x128.Idx) (h0 : (i 0).val = (k 0).val) (h1 : (i 1).val = (k 1).val) (h2 : (i 2).val = (k 2).val) : i = k := by
  funext a
  match a with
  | ⟨0, _⟩ => exact Fin.ext h0
  | ⟨1, _⟩ => exact Fin.ext h1
  | ⟨2, _⟩ => exact Fin.ext h2
/-- Two indices of the output block with the same two coordinates are equal. -/
theorem ext2 (i k : S1024x128.Idx) (h0 : (i 0).val = (k 0).val) (h1 : (i 1).val = (k 1).val) : i = k := by
  funext a
  match a with
  | ⟨0, _⟩ => exact Fin.ext h0
  | ⟨1, _⟩ => exact Fin.ext h1

/-- The index `(a, b)` of a `128 × 128` tile. -/
def pt (a b : Fin 128) : S128x128.Idx := ix2 a b
/-- A tile's index from its coordinates. -/
theorem eq_pt (x : S128x128.Idx) : ∃ a b : Fin 128, x = pt a b := ⟨x 0, x 1, eq_ix2 (n0 := 128) (n1 := 128) x⟩

/-- Slot `j`'s element `(a, b)` is the send buffer's `(j, a, b)`, coordinate by coordinate. -/
theorem slot_emb (j : Dev nD) (inb : ∀ a, (![j.val, 0, 0] : Fin 3 → ℕ) a + S1x128x128.size a ≤ S8x128x128.size a) (a b : Fin 128) :
    ((slotM ![j.val, 0, 0] inb).view.emb (pt a b) : S8x128x128.Idx) = ix3 (j : Fin 8) a b := by
  show (Rect.unit (s := S8x128x128) ![j.val, 0, 0] S1x128x128.size inb).emb (Shape.reshapeEquiv squeezes_S1x128x128_S128x128.numel_eq (pt a b)) = _
  have h : Shape.reshapeEquiv squeezes_S1x128x128_S128x128.numel_eq (pt a b) = (ix3 (⟨0, Nat.one_pos⟩ : Fin 1) a b : S1x128x128.Idx) :=
    reshapeEquiv_ix2_1ab _ a b
  rw [h]
  refine ext3 _ _ ?_ ?_ ?_ <;> refine (unit_emb_val _ _ _ _ _).trans ?_
  · show j.val + 0 = j.val; omega
  · show 0 + a.val = a.val; omega
  · show 0 + b.val = b.val; omega

/-- Band `s`'s element `(a, b)` is the output block's `(128 s + a, b)`. -/
theorem row_emb (s : Dev nD) (inb : ∀ a, (![128 * s.val, 0] : Fin 2 → ℕ) a + S128x128.size a ≤ S1024x128.size a) (a b : Fin 128) :
    ((rowM ![128 * s.val, 0] inb).view.emb (pt a b) : S1024x128.Idx)
      = ix2 (⟨128 * s.val + a.val, by have h : s.val < 8 := s.isLt; have := a.isLt; omega⟩ : Fin 1024) b :=
  ext2 _ _ (unit_emb_val _ _ _ _ _) ((unit_emb_val _ _ _ _ _).trans (Nat.zero_add _))

/-- An element of slot set `j` is some element of the printed slot. -/
theorem slot_onto (j : Dev nD) (inb : ∀ a, (![j.val, 0, 0] : Fin 3 → ℕ) a + S1x128x128.size a ≤ S8x128x128.size a) (i : S8x128x128.Idx)
    (hi : (i 0).val = j.val) : ((slotM ![j.val, 0, 0] inb).view.emb (pt (i 1) (i 2)) : S8x128x128.Idx) = i :=
  (slot_emb j inb (i 1) (i 2)).trans (ext3 _ _ hi.symm rfl rfl)

set_option backward.proofsInPublic true in
/-- The row within its band of an element of the output block. -/
def inBand (i : S1024x128.Idx) : Fin 128 := ⟨(i 0).val % 128, Nat.mod_lt _ (by decide)⟩

/-- An element of band set `s` is some element of the printed band. -/
theorem row_onto (s : Dev nD) (inb : ∀ a, (![128 * s.val, 0] : Fin 2 → ℕ) a + S128x128.size a ≤ S1024x128.size a) (i : S1024x128.Idx)
    (hi : (i 0).val / 128 = s.val) : ((rowM ![128 * s.val, 0] inb).view.emb (pt (inBand i) (i 1)) : S1024x128.Idx) = i :=
  (row_emb s inb (inBand i) (i 1)).trans (ext2 _ _ (by show 128 * s.val + (i 0).val % 128 = (i 0).val; omega) rfl)

/-- A printed slot's elements are those of the slot set. -/
theorem slot_set (j : Dev nD) (off : Fin 3 → ℕ) (inb : ∀ a, off a + S1x128x128.size a ≤ S8x128x128.size a) (h : off = ![j.val, 0, 0]) :
    (slotM off inb).view.set = slotSet j := by
  subst h
  refine Finset.ext fun i => ⟨fun hi => ?_, fun hi => ?_⟩
  · obtain ⟨x, -, rfl⟩ := Finset.mem_map.1 hi
    obtain ⟨a, b, rfl⟩ := eq_pt x
    exact (mem_slotSet j _).2 (congrArg (fun k : S8x128x128.Idx => (k 0).val) (slot_emb j inb a b))
  · exact Finset.mem_map.2 ⟨_, Finset.mem_univ _, slot_onto j inb i ((mem_slotSet j i).1 hi)⟩

/-- A printed band's elements are those of the band set. -/
theorem row_set (s : Dev nD) (off : Fin 2 → ℕ) (inb : ∀ a, off a + S128x128.size a ≤ S1024x128.size a) (h : off = ![128 * s.val, 0]) :
    (rowM off inb).view.set = rowSet s := by
  subst h
  refine Finset.ext fun i => ⟨fun hi => ?_, fun hi => ?_⟩
  · obtain ⟨x, -, rfl⟩ := Finset.mem_map.1 hi
    obtain ⟨a, b, rfl⟩ := eq_pt x
    refine (mem_rowSet s _).2 ((congrArg (fun k : S1024x128.Idx => (k 0).val / 128) (row_emb s inb a b)).trans ?_)
    have := a.isLt
    show (128 * s.val + a.val) / 128 = s.val
    omega
  · exact Finset.mem_map.2 ⟨_, Finset.mem_univ _, row_onto s inb i ((mem_rowSet s i).1 hi)⟩

end Cert.KernelIdeal.Own
-- ==== Proof.Contents.lean ====
/-
What the buffers hold.

A device's activated product `y` is `128 × 1024`. Its send buffer holds `y`'s eight bands of columns, one per slot; the
output block of device `c` holds in band `s` what device `s` keeps in its slot for `c`. This file defines these contents
and says that each store, each landing and the copy of the device's own slot produce them.
-/
module

public import proofs.«01_k».proof.Proof.Places

@[expose] public section

set_option maxRecDepth 16384

noncomputable section

namespace Cert.KernelIdeal.Own

open Cert.KernelIdeal Cert.KernelIdeal.Gen
open Idealize.ShloMosaic Idealize.ShloMosaic.TcCoe Idealize.ShloMosaic.ValueIdx

variable {F : FTy → Type} [FloatOps F]

/-- A `128 × 1024` array. -/
abbrev Prod (F : FTy → Type) : Type := S128x1024.Idx → F .bf16
/-- Contents of the send buffer. -/
abbrev SendBuf (F : FTy → Type) : Type := S8x128x128.Idx → F .bf16
/-- Contents of the output block. -/
abbrev OutBuf (F : FTy → Type) : Type := S1024x128.Idx → F .bf16

/-- The send buffer made from `y`: slot `j` at `(a, b)` is `y` at `(a, 128 j + b)`. -/
def sendOf (y : Prod F) : SendBuf F := fun i =>
  y (ix2 (i 1 : Fin 128) (⟨128 * (i 0).val + (i 2).val, by
    have h0 : (i 0).val < 8 := (i 0).isLt
    have h2 : (i 2).val < 128 := (i 2).isLt
    omega⟩ : Fin 1024))

/-- The device whose band holds an element of the output block. -/
def bandOf (i : S1024x128.Idx) : Dev nD :=
  ⟨(i 0).val / 128, by have h : (i 0).val < 1024 := (i 0).isLt; show _ < 8; omega⟩

/-- The output block of device `c` when device `s` has the product `y s`: band `s` is `s`'s slot for `c`. -/
def outOf (y : Dev nD → Prod F) (c : Dev nD) : OutBuf F := fun i =>
  sendOf (y (bandOf i)) (ix3 (c : Fin 8) (inBand i) (i 1 : Fin 128))

/-- The send buffer with its first `n` slots made from `y` and the others as in `f`. -/
def filled (n : ℕ) (y : Prod F) (f : SendBuf F) : SendBuf F := fun i => if (i 0).val < n then sendOf y i else f i

theorem filled_zero (y : Prod F) (f : SendBuf F) : filled 0 y f = f := funext fun i => if_neg (Nat.not_lt_zero _)
theorem filled_all (y : Prod F) (f : SendBuf F) : filled 8 y f = sendOf y := funext fun i => if_pos (i 0).isLt

/-- The value stored to a slot: a band of `y`'s columns from column `o`, under a leading unit axis. -/
def slotPay (o : ℕ) (h : S128x1024.Slices ![0, o] S128x128) (y : Prod F) : S1x128x128.Idx → F .bf16 :=
  shapeCast S1x128x128 (extractStridedSlice S128x128 ![0, o] y h) shapeCasts_S128x128_S1x128x128

/-- The value stored to slot `j`, element by element: the send buffer's at slot `j`. -/
theorem slotPay_apply (j : Dev nD) (h : S128x1024.Slices ![0, 128 * j.val] S128x128) (y : Prod F) (a b : Fin 128) :
    slotPay (128 * j.val) h y (ix3 (0 : Fin 1) a b) = sendOf y (ix3 (j : Fin 8) a b) :=
  (shapeCast_ab_1ab_apply _ _ _ _ _).trans (slice2_axis1_apply _ _ _ _ _ _ rfl)

/-- The element of the send buffer that `(0, a, b)` of the stored rectangle names. -/
theorem access_slot_emb (j : Dev nD) (inb : ∀ a, (![j.val, 0, 0] : Fin 3 → ℕ) a + S1x128x128.size a ≤ S8x128x128.size a)
    (z : S1x128x128.Idx) :
    ((sM.access (Rect.unit (s := S8x128x128) ![j.val, 0, 0] S1x128x128.size inb)).emb z : S8x128x128.Idx)
      = ix3 (j : Fin 8) (z 1 : Fin 128) (z 2 : Fin 128) := by
  have h0 : (z 0).val < 1 := (z 0).isLt
  refine ext3 _ _ ?_ ?_ ?_ <;> refine (unit_emb_val _ _ _ _ _).trans ?_
  · show j.val + (z 0).val = j.val; omega
  · show 0 + (z 1).val = (z 1).val; omega
  · show 0 + (z 2).val = (z 2).val; omega

/-- Storing slot `j`'s value fills one more slot. -/
theorem store_slot (j : Dev nD) (off : Fin 3 → ℕ) (inb : ∀ a, off a + S1x128x128.size a ≤ S8x128x128.size a)
    (hoff : off = ![j.val, 0, 0]) (h : S128x1024.Slices ![0, 128 * j.val] S128x128) (y : Prod F) (f : SendBuf F) :
    (sM.access (Rect.unit (s := S8x128x128) off S1x128x128.size inb)).write (Elt F) (filled j.val y f) (slotPay (128 * j.val) h y) Finset.univ
      = filled (j.val + 1) y f := by
  subst hoff
  funext i
  by_cases hi : (i 0).val = j.val
  · have he : ((sM.access (Rect.unit (s := S8x128x128) ![j.val, 0, 0] S1x128x128.size inb)).emb
        (ix3 (0 : Fin 1) (i 1 : Fin 128) (i 2 : Fin 128)) : S8x128x128.Idx) = i :=
      (access_slot_emb j inb _).trans (ext3 _ _ hi.symm rfl rfl)
    have hw := View.write_emb_of_mem (v := sM.access (Rect.unit (s := S8x128x128) ![j.val, 0, 0] S1x128x128.size inb)) (Val := Elt F)
      (filled j.val y f) (slotPay (128 * j.val) h y) (M := Finset.univ) (x := ix3 (0 : Fin 1) (i 1 : Fin 128) (i 2 : Fin 128)) (Finset.mem_univ _)
    rw [he] at hw
    refine hw.trans ((slotPay_apply j h y (i 1) (i 2)).trans ?_)
    have hr : (ix3 (j : Fin 8) (i 1 : Fin 128) (i 2 : Fin 128) : S8x128x128.Idx) = i := ext3 _ _ hi.symm rfl rfl
    rw [hr]
    exact (if_pos (by omega)).symm
  · refine (View.write_of_not_mem (v := sM.access (Rect.unit (s := S8x128x128) ![j.val, 0, 0] S1x128x128.size inb)) (Val := Elt F) _ _ _ ?_).trans ?_
    · intro hm
      obtain ⟨z, -, rfl⟩ := Finset.mem_map.1 hm
      exact hi (congrArg (fun k : S8x128x128.Idx => (k 0).val) (access_slot_emb j inb z))
    · show (if (i 0).val < j.val then _ else _) = if (i 0).val < j.val + 1 then _ else _
      by_cases hl : (i 0).val < j.val
      · rw [if_pos hl, if_pos (by omega)]
      · rw [if_neg hl, if_neg (by omega)]

/-- An element of band `s`, in terms of the band's own coordinates. -/
theorem outOf_row (y : Dev nD → Prod F) (c s : Dev nD) (i : S1024x128.Idx) (hi : (i 0).val / 128 = s.val) :
    outOf y c i = sendOf (y s) (ix3 (c : Fin 8) (inBand i) (i 1 : Fin 128)) := by
  have h : bandOf i = s := Fin.ext hi
  unfold outOf
  rw [h]

/-- What `s`'s transfer to `c` leaves in band `s` of `c`'s output block is what the block is to hold there. -/
theorem landed (y : Dev nD → Prod F) (c s : Dev nD) (off : Fin 2 → ℕ) (inb : ∀ a, off a + S128x128.size a ≤ S1024x128.size a)
    (hoff : off = ![128 * s.val, 0]) (off' : Fin 3 → ℕ) (inb' : ∀ a, off' a + S1x128x128.size a ≤ S8x128x128.size a)
    (hoff' : off' = ![c.val, 0, 0]) (f : OutBuf F) (i : S1024x128.Idx) (hi : i ∈ rowSet s) :
    (rowM off inb).view.write (Elt F) f ((slotM off' inb').view.read (Elt F) (sendOf (y s))) Finset.univ i = outOf y c i := by
  subst hoff hoff'
  have hs := (mem_rowSet s i).1 hi
  have hw := View.write_emb_of_mem (v := (rowM ![128 * s.val, 0] inb).view) (Val := Elt F)
    f ((slotM ![c.val, 0, 0] inb').view.read (Elt F) (sendOf (y s))) (M := Finset.univ) (x := pt (inBand i) (i 1)) (Finset.mem_univ _)
  rw [row_onto s inb i hs] at hw
  refine hw.trans ((congrArg (sendOf (y s)) (slot_emb c inb' (inBand i) (i 1))).trans ?_)
  exact (outOf_row y c s i hs).symm

/-- The elements that a load or store through the rectangle of band `s` touches are the band's. -/
theorem row_access_set (s : Dev nD) (off : Fin 2 → ℕ) (inb : ∀ a, off a + S128x128.size a ≤ S1024x128.size a) (h : off = ![128 * s.val, 0]) :
    (oM.access (Rect.unit (s := S1024x128) off S128x128.size inb)).set = rowSet s := row_set s off inb h

/-- The elements that a load or store through the rectangle of slot `j` touches are the slot's. -/
theorem slot_access_set (j : Dev nD) (off : Fin 3 → ℕ) (inb : ∀ a, off a + S1x128x128.size a ≤ S8x128x128.size a) (h : off = ![j.val, 0, 0]) :
    (sM.access (Rect.unit (s := S8x128x128) off S1x128x128.size inb)).set = slotSet j :=
  (View.set_reshape _ _).symm.trans (slot_set j off inb h)

/-- A device's own slot, read and stored to its own band, leaves there what the block is to hold. -/
theorem copied (y : Dev nD → Prod F) (c : Dev nD) (off : Fin 2 → ℕ) (inb : ∀ a, off a + S128x128.size a ≤ S1024x128.size a)
    (hoff : off = ![128 * c.val, 0]) (off' : Fin 3 → ℕ) (inb' : ∀ a, off' a + S1x128x128.size a ≤ S8x128x128.size a)
    (hoff' : off' = ![c.val, 0, 0]) (f : OutBuf F) (i : S1024x128.Idx) (hi : i ∈ rowSet c) :
    (oM.access (Rect.unit (s := S1024x128) off S128x128.size inb)).write (Elt F) f
      (shapeCast S128x128 ((sM.access (Rect.unit (s := S8x128x128) off' S1x128x128.size inb')).read (Elt F) (sendOf (y c))) shapeCasts_S1x128x128_S128x128)
      Finset.univ i = outOf y c i :=
  landed y c c off inb hoff off' inb' hoff' f i hi

end Cert.KernelIdeal.Own
-- ==== Proof.Protocol.lean ====
/-
The protocol: who signals whom, how much, and what each arrival hands over.

Every device has sixteen semaphores besides the pipeline's. Each has at most one round.

* the barrier semaphore of `c` is signalled once by each of the seven other devices and waited on for seven. The
  signal of device `fwd c e` (duty `e`) hands `c` band `c` of that device's output block, at any contents: the place
  `c`'s transfer to it will fill.
* the send semaphore of hop `d` on `c` is credited by `c`'s own transfer to `fwd c d`; it hands back the slot the
  transfer read, as it was.
* the arrival semaphore of `c` for device `s` is credited by `s`'s transfer; it hands over band `s` of `c`'s output
  block, holding what the block is to hold there. (The one for `c` itself is never used.)

A device signals all seven, waits for seven, starts its seven transfers, then waits for the seven arrivals and the seven
sends. Owed at launch: one unit to each other barrier, one transfer to each other device's arrival semaphore. The
barrier lies below the arrivals, so a device waiting at its barrier may still owe transfers.
-/
module

public import proofs.«01_k».proof.Proof.Contents
public import Idealize.ShloMosaic.Lib.Pipeline.Launch
public import Idealize.ShloMosaic.Lib.Pipeline.Kit
public import Idealize.ShloMosaic.Lib.Ring

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

/-- The rounds' own state, its duties named by hops; beside it the pipeline's. -/
abbrev UH : Type := URounds (GSem nD τ sig) (Fin 7)
abbrev UU : Type := UR sig nD τ × UH

local notation "𝕄" => MT nD τ sig Unit (Elt F) ℕ UU ℕ

abbrev EP : Emb (UR sig nD τ) (MT nD τ sig Unit (Elt F) ℕ UU ℕ) := embL
abbrev ER : Emb UH (MT nD τ sig Unit (Elt F) ℕ UU ℕ) := embR

abbrev 𝒱₀ : Variants := Variants.none

variable (m : (ℓ : Loc nD τ sig) → Buf (Elt F) ℓ) (ρ : Dev nD → PrngReg)

/-- The memory at launch: any contents, all counters zero, any generator registers. -/
def s₀ : MemSt nD τ sig (Elt F) := ⟨m, fun _ => 0, ρ⟩

/-! ## Contents -/

/-- Device `c`'s block of `x`, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s copy of the weights, as the pipeline stages it. -/
def wstg (c : Dev nD) : (cc0_stg1_0 : Ref sig .tc).ty.Contents (Elt F) :=
  (win0_1.blk (0 : Fin 1)).view.read (Elt F) ((s₀ m ρ).mem ((c : Thread nD τ).loc main_arg1))
/-- Device `c`'s activated product. -/
def yAt (c : Dev nD) : Prod F := k0_pay2 (k0_pay1 (xstg m ρ c)) (wstg m ρ c)
/-- What device `c`'s send buffer comes to hold. -/
def sendAt (c : Dev nD) : SendBuf F := sendOf (yAt m ρ c)
/-- What device `c`'s output block comes to hold. -/
def outAt (c : Dev nD) : OutBuf F := outOf (yAt m ρ) c

/-- Slot `j` of device `c`'s send buffer, holding `f`. -/
def slotPts (c j : Dev nD) (f : SendBuf F) : sProp 𝕄 := ((c : Thread nD τ).loc cc0_scratch0) ↦[slotSet j]{fullShare} f
/-- Band `s` of device `c`'s output block, holding `f`. -/
def bandPts (c s : Dev nD) (f : OutBuf F) : sProp 𝕄 := ((c : Thread nD τ).loc cc0_stg2_0) ↦[rowSet s]{fullShare} f

omit [FloatOps F] in
instance slotPts_storable (c j : Dev nD) (f : SendBuf F) : BI.Storable (upEmb : UEmb _ 𝕄) (slotPts (F := F) c j f) := by
  unfold slotPts; infer_instance
omit [FloatOps F] in
instance bandPts_storable (c s : Dev nD) (f : OutBuf F) : BI.Storable (upEmb : UEmb _ 𝕄) (bandPts (F := F) c s f) := by
  unfold bandPts; infer_instance

/-! ## Semaphores -/

/-- The barrier semaphore. -/
abbrev barS : Sem sig := (SemArray.scalar (sig.barrier 0 rfl) : Sems sig S_).sem
/-- Hop `d`'s send semaphore. -/
abbrev sendS (d : Fin 7) : DmaSem sig := ⟨d.val + 3, by have := d.isLt; show _ < 18; omega⟩
/-- The arrival semaphore for device `s`. -/
abbrev recvS (s : Dev nD) : DmaSem sig := ⟨s.val + 10, by have h : s.val < 8 := s.isLt; show _ < 18; omega⟩

abbrev barCell (c : Dev nD) : GSem nD τ sig := ((c : Thread nD τ), .reg barS)
abbrev sendCell (c : Dev nD) (d : Fin 7) : GSem nD τ sig := ((c : Thread nD τ), .dma (sendS d))
abbrev recvCell (c s : Dev nD) : GSem nD τ sig := ((c : Thread nD τ), .dma (recvS s))

/-- The kernel's own scoped semaphores: one per hop, one per sender. -/
abbrev osem : Fin 7 ⊕ Dev nD → SemLoc sig
  | .inl d => .dma (sendS d)
  | .inr s => .dma (recvS s)
/-- All semaphores of the protocol: the barrier and those. -/
abbrev csem : Option (Fin 7 ⊕ Dev nD) → SemLoc sig
  | none => .reg barS
  | some k => osem k
/-- The semaphores of the protocol on all devices. -/
abbrev kcell (ck : Dev nD × Option (Fin 7 ⊕ Dev nD)) : GSem nD τ sig := ((ck.1 : Thread nD τ), csem ck.2)

/-- The credit of one transfer: a `128 × 128` tile's. -/
def N : ℕ := (rowM ![0, 0] inb_S1024x128_S128x128_0_0).view.dmaCredit
theorem N_pos : 0 < N := View.dmaCredit_pos _ (by decide)
theorem N_row (off : Fin 2 → ℕ) (inb : ∀ a, off a + S128x128.size a ≤ S1024x128.size a) : (rowM off inb).view.dmaCredit = N := rfl
theorem N_slot (off : Fin 3 → ℕ) (inb : ∀ a, off a + S1x128x128.size a ≤ S8x128x128.size a) : (slotM off inb).view.dmaCredit = N := rfl

/-! ## The schedule -/

set_option backward.proofsInPublic true in
/-- The hop that leads back: `fwd (fwd c d) (back d) = c`. -/
def back (d : Fin 7) : Fin 7 := ⟨6 - d.val, Nat.lt_succ_of_le (Nat.sub_le _ _)⟩
theorem fwd_back (c : Dev nD) (d : Fin 7) : fwd (fwd c d) (back d) = c := by revert c d; decide
theorem back_back (d : Fin 7) : back (back d) = d := by revert d; decide

/-- What duty `e` of `c`'s barrier hands over: band `c` of device `fwd c e`'s output block. -/
def barPay (c : Dev nD) (e : Fin 7) : sProp 𝕄 := iprop(∃ f : OutBuf F, bandPts (fwd c e) c f)
/-- What an arrival or a completed send hands over, by the semaphore's number. -/
def dmaPay (c : Dev nD) (q : DmaSem sig) : sProp 𝕄 :=
  if h : q.val < 10 then (if h' : 3 ≤ q.val then slotPts c (fwd c ⟨q.val - 3, by omega⟩) (sendAt m ρ c) else iprop(emp))
  else bandPts c ⟨q.val - 10, by have h2 : q.val < 18 := q.isLt; show _ < 8; omega⟩ (outAt m ρ c)

/-- The duties of a device's semaphore: the barrier's seven, one for every send and for every other device's arrival. -/
def dutiesOf (c : Dev nD) : SemLoc sig → Finset (Fin 7)
  | .reg _ => Finset.univ
  | .dma q => if 3 ≤ q.val ∧ q.val ≠ c.val + 10 then {0} else ∅

/-- The schedule of every semaphore. -/
def rd : Rounds.Schedule (GSem nD τ sig) (Fin 7) 𝕄 where
  duties g r := if r = 0 ∧ g.1.2 = .tc then dutiesOf g.1.1 g.2 else ∅
  unitless _ := False
  amount g _ _ := match g.2 with
    | .reg _ => 1
    | .dma _ => N
  payload g _ e := match g.2 with
    | .reg _ => barPay g.1.1 e
    | .dma q => dmaPay m ρ g.1.1 q
  amount_pos g _ _ _ := by
    cases g.2 with
    | reg _ => exact Nat.one_pos
    | dma _ => exact N_pos

omit [FloatOps F] in
instance barPay_storable (c : Dev nD) (e : Fin 7) : BI.Storable (upEmb : UEmb _ 𝕄) (barPay (F := F) c e) := by
  unfold barPay; infer_instance
instance dmaPay_storable (c : Dev nD) (q : DmaSem sig) : BI.Storable (upEmb : UEmb _ 𝕄) (dmaPay (F := F) m ρ c q) := by
  unfold dmaPay; (repeat' split) <;> infer_instance
instance rd_payload_storable (g : GSem nD τ sig) (r : ℕ) (e : Fin 7) :
    BI.Storable (upEmb : UEmb _ 𝕄) ((rd (F := F) m ρ).payload g r e) := by
  obtain ⟨t, l⟩ := g
  cases l with
  | reg _ => exact barPay_storable t.1 e
  | dma q => exact dmaPay_storable m ρ t.1 q

/-- In its one round a device's semaphore has the duties listed. -/
theorem duties_zero (c : Dev nD) (sm : SemLoc sig) : (rd (F := F) m ρ).duties ((c : Thread nD τ), sm) 0 = dutiesOf c sm := by
  dsimp only [rd]; exact if_pos ⟨rfl, rfl⟩
theorem duties_bar (c : Dev nD) : (rd (F := F) m ρ).duties (barCell c) 0 = Finset.univ := duties_zero m ρ c _
theorem duties_send (c : Dev nD) (d : Fin 7) : (rd (F := F) m ρ).duties (sendCell c d) 0 = {0} := by
  rw [duties_zero]
  dsimp only [dutiesOf]
  exact if_pos ⟨Nat.le_add_left _ _, by have := d.isLt; omega⟩
theorem duties_recv (c s : Dev nD) (h : s ≠ c) : (rd (F := F) m ρ).duties (recvCell c s) 0 = {0} := by
  rw [duties_zero]
  dsimp only [dutiesOf]
  exact if_pos ⟨by omega, fun e => h (Fin.ext (by omega))⟩
theorem duties_own (c : Dev nD) (r : ℕ) : (rd (F := F) m ρ).duties (recvCell c c) r = ∅ := by
  dsimp only [rd]
  by_cases h : r = 0
  · rw [if_pos ⟨h, rfl⟩]; dsimp only [dutiesOf]; exact if_neg fun h' => h'.2 rfl
  · exact if_neg fun h' => h h'.1
theorem duties_later (g : GSem nD τ sig) (r : ℕ) (hr : 1 ≤ r) : (rd (F := F) m ρ).duties g r = ∅ :=
  if_neg fun h => by omega

theorem amount_bar (c : Dev nD) (e : Fin 7) : (rd (F := F) m ρ).amount (barCell c) 0 e = 1 := rfl
theorem amount_send (c : Dev nD) (d e : Fin 7) : (rd (F := F) m ρ).amount (sendCell c d) 0 e = N := rfl
theorem amount_recv (c s : Dev nD) (e : Fin 7) : (rd (F := F) m ρ).amount (recvCell c s) 0 e = N := rfl

theorem expect_bar (c : Dev nD) : (rd (F := F) m ρ).expect (barCell c) 0 = 7 := by
  unfold Schedule.expect Schedule.amountOf
  rw [duties_bar, Finset.sum_congr rfl fun e _ => amount_bar m ρ c e, Finset.sum_const, Finset.card_univ, Fintype.card_fin, smul_eq_mul]
theorem expect_send (c : Dev nD) (d : Fin 7) : (rd (F := F) m ρ).expect (sendCell c d) 0 = N := by
  unfold Schedule.expect Schedule.amountOf
  rw [duties_send, Finset.sum_singleton, amount_send]
theorem expect_recv (c s : Dev nD) (h : s ≠ c) : (rd (F := F) m ρ).expect (recvCell c s) 0 = N := by
  unfold Schedule.expect Schedule.amountOf
  rw [duties_recv m ρ c s h, Finset.sum_singleton, amount_recv]

theorem payload_bar (c : Dev nD) (e : Fin 7) : (rd (F := F) m ρ).payload (barCell c) 0 e = barPay c e := rfl
theorem payload_send (c : Dev nD) (d e : Fin 7) : (rd (F := F) m ρ).payload (sendCell c d) 0 e = slotPts c (fwd c d) (sendAt m ρ c) := by
  have h : (sendS d : DmaSem sig).val < 10 := by have := d.isLt; show d.val + 3 < 10; omega
  show dmaPay m ρ c (sendS d) = _
  unfold dmaPay
  rw [dif_pos h, dif_pos (Nat.le_add_left _ _)]
  exact congrArg (fun k => slotPts c (fwd c k) (sendAt m ρ c)) (Fin.ext (Nat.add_sub_cancel d.val 3))
theorem payload_recv (c s : Dev nD) (e : Fin 7) : (rd (F := F) m ρ).payload (recvCell c s) 0 e = bandPts c s (outAt m ρ c) := by
  have h : ¬ (recvS s : DmaSem sig).val < 10 := by show ¬ s.val + 10 < 10; omega
  show dmaPay m ρ c (recvS s) = _
  unfold dmaPay
  rw [dif_neg h]
  exact congrArg (fun k => bandPts c k (outAt m ρ c)) (Fin.ext (Nat.add_sub_cancel s.val 10))

/-- What a barrier wait for all seven brings. -/
theorem rest_bar (c : Dev nD) :
    bigSep ((rd (F := F) m ρ).duties (barCell c) 0 \ ∅) (fun e => (rd (F := F) m ρ).payload (barCell c) 0 e) = bigSep Finset.univ fun e => barPay c e := by
  rw [Finset.sdiff_empty, duties_bar]; rfl
/-- What a wait for a send brings. -/
theorem rest_send (c : Dev nD) (d : Fin 7) :
    bigSep ((rd (F := F) m ρ).duties (sendCell c d) 0 \ ∅) (fun e => (rd (F := F) m ρ).payload (sendCell c d) 0 e) = slotPts c (fwd c d) (sendAt m ρ c) := by
  rw [Finset.sdiff_empty, duties_send, bigSep_singleton, payload_send]
/-- What a wait for an arrival brings. -/
theorem rest_recv (c s : Dev nD) (h : s ≠ c) :
    bigSep ((rd (F := F) m ρ).duties (recvCell c s) 0 \ ∅) (fun e => (rd (F := F) m ρ).payload (recvCell c s) 0 e) = bandPts c s (outAt m ρ c) := by
  rw [Finset.sdiff_empty, duties_recv m ρ c s h, bigSep_singleton, payload_recv]

/-! ## What is still to do from hop `n` on -/

/-- The hops from `n` on, and those before `n`. -/
def todo (n : ℕ) : Finset (Fin 7) := Finset.univ.filter fun d => n ≤ d.val
def done (n : ℕ) : Finset (Fin 7) := Finset.univ.filter fun d => d.val < n

theorem todo_zero : todo 0 = Finset.univ := by decide
theorem todo_all : todo 7 = ∅ := by decide
theorem done_zero : done 0 = ∅ := by decide
theorem done_all : done 7 = Finset.univ := by decide
theorem todo_step (d : Fin 7) : todo d.val = insert d (todo (d.val + 1)) := by revert d; decide
theorem todo_new (d : Fin 7) : d ∉ todo (d.val + 1) := by revert d; decide
theorem done_step (d : Fin 7) : done (d.val + 1) = insert d (done d.val) := by revert d; decide
theorem done_new (d : Fin 7) : d ∉ done d.val := by revert d; decide

omit [FloatOps F] in
/-- Taking up hop `d`. -/
theorem bigSep_todo (Φ : Fin 7 → sProp 𝕄) (d : Fin 7) : bigSep (todo d.val) Φ = iprop(Φ d ∗ bigSep (todo (d.val + 1)) Φ) := by
  rw [todo_step, bigSep_insert (todo_new d)]; rfl
omit [FloatOps F] in
/-- Setting down hop `d`. -/
theorem bigSep_done (Φ : Fin 7 → sProp 𝕄) (d : Fin 7) : bigSep (done (d.val + 1)) Φ = iprop(Φ d ∗ bigSep (done d.val) Φ) := by
  rw [done_step, bigSep_insert (done_new d)]; rfl

/-- Signals owed from hop `n` on. -/
def owedSig (c : Dev nD) (n : ℕ) : CellTallies nD τ sig Unit := ∑ d ∈ todo n, tallyAt (barCell (fwd c d)) () 1
/-- Transfers owed from hop `n` on. -/
def owedSnd (c : Dev nD) (n : ℕ) : CellTallies nD τ sig Unit := ∑ d ∈ todo n, tallyAt (recvCell (fwd c d) c) () N
/-- What device `c` owes at launch. -/
def O₀ (c : Dev nD) : CellTallies nD τ sig Unit := owedSnd c 0 + owedSig c 0

theorem owedSig_step (c : Dev nD) (d : Fin 7) : owedSig c d.val = owedSig c (d.val + 1) + tallyAt (barCell (fwd c d)) () 1 := by
  unfold owedSig; rw [todo_step, Finset.sum_insert (todo_new d), add_comm]
theorem owedSnd_step (c : Dev nD) (d : Fin 7) : owedSnd c d.val = owedSnd c (d.val + 1) + tallyAt (recvCell (fwd c d) c) () N := by
  unfold owedSnd; rw [todo_step, Finset.sum_insert (todo_new d), add_comm]
theorem owedSig_all (c : Dev nD) : owedSig c 7 = 0 := by unfold owedSig; rw [todo_all, Finset.sum_empty]
theorem owedSnd_all (c : Dev nD) : owedSnd c 7 = 0 := by unfold owedSnd; rw [todo_all, Finset.sum_empty]

/-! ## Levels -/

/-- Every semaphore of a TensorCore has one level; -/
def L (g : GSem nD τ sig) : Finset Unit := if g.1.2 = .tc then {()} else ∅
/-- the barrier's is 1, an arrival's 2, a send's and the pipeline's 0. -/
def lv (g : GSem nD τ sig) (_ : Unit) : ℕ := match g.2 with
  | .reg _ => 1
  | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c s : Dev nD) : lv (recvCell c s) () = 2 := by dsimp only [lv]; exact if_pos (by omega)

/-- A positive part of a sum of tallies is a positive part of one of them. -/
theorem sum_pos_mem (S : Finset (Fin 7)) (G : Fin 7 → GSem nD τ sig) (k : ℕ) (g : GSem nD τ sig) (u : Unit)
    (h : 0 < (∑ d ∈ S, (tallyAt (G d) () k : CellTallies nD τ sig Unit)) g u) : ∃ d, g = G d := by
  by_contra hn
  rw [not_exists] at hn
  rw [Finset.sum_apply, Finsupp.finset_sum_apply, Finset.sum_eq_zero fun d _ => by rw [tallyAt_apply, if_neg fun h' => hn d h'.1]] at h
  exact Nat.lt_irrefl 0 h

/-- Transfers owed lie on arrival semaphores. -/
theorem owedSnd_pos {c : Dev nD} {n : ℕ} {g : GSem nD τ sig} {u : Unit} (h : 0 < owedSnd c n g u) : ∃ d, g = recvCell (fwd c d) c :=
  sum_pos_mem _ (fun d => recvCell (fwd c d) c) _ _ _ h
/-- What is owed at launch lies on arrival semaphores or barriers. -/
theorem O₀_pos {c : Dev nD} {g : GSem nD τ sig} {u : Unit} (h : 0 < O₀ c g u) :
    (∃ d, g = recvCell (fwd c d) c) ∨ ∃ d, g = barCell (fwd c d) := by
  unfold O₀ at h
  rw [Pi.add_apply, Finsupp.add_apply] at h
  rcases Nat.eq_zero_or_pos (owedSnd c 0 g u) with h0 | h0
  · rw [h0, Nat.zero_add] at h; exact .inr (sum_pos_mem _ (fun d => barCell (fwd c d)) _ _ _ h)
  · exact .inl (owedSnd_pos h0)

omit [FloatOps F] in
/-- The pipeline's own waits may happen while everything is owed, or nothing. -/
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; exact (if_neg (by omega : ¬ 10 ≤ q.val)).le)
      (fun g u hg => by
        rcases O₀_pos hg with ⟨d, rfl⟩ | ⟨d, rfl⟩
        · rw [lv_recv]; decide
        · exact Nat.one_pos)
  · rw [MayWait_zero]; iintro -; iempintro

omit [FloatOps F] in
/-- A device may wait at its barrier while it owes its transfers. -/
theorem mayWait_bar (c : Dev nD) : (levAts L lv : sProp 𝕄) ⊢ MayWait (c : Thread nD τ) (.reg barS) () (owedSnd c 0) :=
  MayOwe.of_cut (L := L) (lev := lv) 1 (fun p hp => by rw [Finset.mem_singleton.mp hp, L_tc]; exact Finset.mem_singleton_self _)
    (fun g u hg => by obtain ⟨d, rfl⟩ := owedSnd_pos hg; exact Finset.mem_singleton_self _)
    (fun p hp => by rw [Finset.mem_singleton.mp hp]; exact Nat.le_refl 1)
    (fun g u hg => by obtain ⟨d, rfl⟩ := owedSnd_pos hg; rw [lv_recv]; decide)

/-! ## What every device may use at any time -/

variable (K : Dev nD × Option (Fin 7 ⊕ Dev nD) → ℕ)

/-- Every semaphore's invariant, that it is in its round, and the levels. -/
def records : sProp 𝕄 :=
  iprop((bigSep Finset.univ fun ck : Dev nD × Option (Fin 7 ⊕ Dev nD) => iprop(cellInv ER (rd m ρ) (K ck) (kcell ck) ∗ reached ER (kcell ck) 0)) ∗ levAts L lv)
instance records_persistent : BI.Persistent (records m ρ K) := by unfold records; infer_instance

theorem cell_at (ck : Dev nD × Option (Fin 7 ⊕ Dev nD)) :
    records m ρ K ⊢ iprop(cellInv ER (rd m ρ) (K ck) (kcell ck) ∗ reached ER (kcell ck) 0) := by
  have h : (bigSep Finset.univ fun ck : Dev nD × Option (Fin 7 ⊕ Dev nD) => (iprop(cellInv ER (rd m ρ) (K ck) (kcell ck) ∗ reached ER (kcell ck) 0) : sProp 𝕄))
      ⊢ iprop(cellInv ER (rd m ρ) (K ck) (kcell ck) ∗ reached ER (kcell ck) 0) := bigSep_elim (Finset.mem_univ ck)
  unfold records
  iintro ⟨H, -⟩
  iapply h
  iexact H
theorem inv_at (ck : Dev nD × Option (Fin 7 ⊕ Dev nD)) : records m ρ K ⊢ cellInv ER (rd m ρ) (K ck) (kcell ck) := by
  iintro H
  ihave H := (cell_at m ρ K ck) $$ H
  icases H with ⟨H, -⟩
  iexact H
theorem reached_at (ck : Dev nD × Option (Fin 7 ⊕ Dev nD)) : records m ρ K ⊢ reached ER (kcell ck) 0 := by
  iintro H
  ihave H := (cell_at m ρ K ck) $$ H
  icases H with ⟨-, H⟩
  iexact H
theorem levels_at : records m ρ K ⊢ levAts L lv := by
  unfold records
  iintro ⟨-, H⟩
  iexact H

end Cert.KernelIdeal.Own
-- ==== Proof.Steps.lean ====
/-
One rule per kind of operation of the body.

Each rule takes one operation of the kernel on device `c`, for any hop or slot, from what the device holds before it to
what it holds after it: a signal, a store to a slot, the wait at the barrier, a transfer, the copy of the device's own
slot, a wait for an arrival, a wait for a send.
-/
module

public import proofs.«01_k».proof.Proof.Protocol

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 7 ⊕ Dev nD) → ℕ)

attribute [local irreducible] N

/-- Running `p` on device `c` ends in `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Under the records, `p` on device `c` takes `X` to `X'` and returns `v`. -/
def Step (c : Dev nD) (X : sProp 𝕄) {α : Type} (p : Prog (TpuEff nD τ sig (Elt F) Λ₀ .tc) α) (v : α) (X' : sProp 𝕄) : Prop :=
  ∀ Kt : α → sProp 𝕄, iprop(records m ρ K ∗ X ∗ (X' -∗ Kt v)) ⊢ runs c p Kt

/-- Two steps in a row. -/
theorem Step.bind {c : Dev nD} {X X' X'' : sProp 𝕄} {α β : Type} {p : Prog (TpuEff nD τ sig (Elt F) Λ₀ .tc) α} {v : α}
    {k : α → Prog (TpuEff nD τ sig (Elt F) Λ₀ .tc) β} {w : β} (hp : Step m ρ K c X p v X') (hk : Step m ρ K c X' (k v) w X'') :
    Step m ρ K c X (p >>= k) w X'' := by
  intro Kt
  simp only [runs, wp_bind]
  iintro ⟨#HR, HX, Hk⟩
  iapply (hp fun a => runs c (k a) Kt)
  isplitr; · iexact HR
  isplitl [HX]; · iexact HX
  iintro HX
  iapply (hk Kt)
  isplitr; · iexact HR
  isplitl [HX] <;> iassumption
/-- Doing nothing. -/
theorem Step.pure {c : Dev nD} {X : sProp 𝕄} {α : Type} {v : α} :
    Step m ρ K c X (Pure.pure v : Prog (TpuEff nD τ sig (Elt F) Λ₀ .tc) α) v X := by
  intro Kt
  simp only [runs, Prog.pure_eq_ret]
  rw [wp_ret]
  iintro ⟨-, HX, Hk⟩
  imodintro; iapply Hk; iexact HX
/-- What a step does not touch stays. -/
theorem Step.frame {c : Dev nD} {X X' : sProp 𝕄} {α : Type} {p : Prog (TpuEff nD τ sig (Elt F) Λ₀ .tc) α} {v : α}
    (R : sProp 𝕄) (hp : Step m ρ K c X p v X') : Step m ρ K c iprop(X ∗ R) p v iprop(X' ∗ R) := by
  intro Kt
  iintro ⟨#HR, ⟨HX, Hr⟩, Hk⟩
  iapply (hp Kt)
  isplitr; · iexact HR
  isplitl [HX]; · iexact HX
  iintro HX
  iapply Hk
  isplitl [HX] <;> iassumption
/-- A step from what entails its start. -/
theorem Step.pre {c : Dev nD} {X Y X' : sProp 𝕄} {α : Type} {p : Prog (TpuEff nD τ sig (Elt F) Λ₀ .tc) α} {v : α}
    (h : X ⊢ Y) (hp : Step m ρ K c Y p v X') : Step m ρ K c X p v X' := fun Kt => by
  iintro ⟨#HR, HX, Hk⟩
  iapply (hp Kt)
  isplitr; · iexact HR
  isplitl [HX]; · iapply h; iexact HX
  iexact Hk

/-- The core reads its own number. -/
theorem step_deviceId (c : Dev nD) {X : sProp 𝕄} : Step m ρ K c X (Prog.lift .deviceId) c X := by
  intro Kt
  simp only [runs, Prog.lift]
  iintro ⟨-, HX, Hk⟩
  rw [wp_deviceId, wp_ret]
  imodintro; iapply Hk; iexact HX

/-- Device `c` owes `O`, whatever it has waited on. -/
def owesW (c : Dev nD) (O : CellTallies nD τ sig Unit) : sProp 𝕄 := iprop(∃ W : Waits sig Unit, owes (c : Thread nD τ) O W)

/-! ## Points-to facts of the printed slices -/

/-- A printed band, as the band set's elements. -/
theorem band_view (c s : Dev nD) (off : Fin 2 → ℕ) (inb : ∀ a, off a + S128x128.size a ≤ S1024x128.size a) (h : off = ![128 * s.val, 0])
    (f : OutBuf F) :
    ((rowM off inb).view.loc (c : Thread nD τ) ↦[(rowM off inb).view.set]{fullShare} f : sProp 𝕄) = bandPts c s f := by
  unfold bandPts; rw [row_set s off inb h]
/-- A printed slot, as the slot set's elements. -/
theorem slot_view (c j : Dev nD) (off : Fin 3 → ℕ) (inb : ∀ a, off a + S1x128x128.size a ≤ S8x128x128.size a) (h : off = ![j.val, 0, 0])
    (f : SendBuf F) :
    ((slotM off inb).view.loc (c : Thread nD τ) ↦[(slotM off inb).view.set]{fullShare} f : sProp 𝕄) = slotPts c j f := by
  unfold slotPts; rw [slot_set j off inb h]
/-- Bands that agree on the band's elements are the same. -/
theorem band_congr (c s : Dev nD) (f g : OutBuf F) (h : ∀ i ∈ rowSet s, f i = g i) : (bandPts c s f : sProp 𝕄) = bandPts c s g := by
  unfold bandPts; exact pointsTo_congr h

/-! ## A signal -/

/-- Before signal `i`: what is owed, the tokens of the signals still to send, and the bands they hand over. -/
def Sig (c : Dev nD) (i : ℕ) : sProp 𝕄 :=
  iprop(owesW c (owedSnd c 0 + owedSig c i)
    ∗ bigSep (todo i) fun d => iprop(dutyTok ER (barCell (fwd c d)) 0 (back d) ∗ ∃ f : OutBuf F, bandPts c (fwd c d) f))

theorem step_signal (c n : Dev nD) (d : Fin 7) (hn : n = fwd c d) (i i' : ℕ) (hi : d.val = i) (hi' : d.val + 1 = i') :
    Step m ρ K c (Sig (F := F) c i) (semSignalWord n barS 1#32)
      ⟨⟩
      (Sig (F := F) c i') := by
  intro Kt
  subst hn hi hi'
  unfold Sig owesW
  rw [bigSep_todo]
  have hO : owedSnd c 0 + owedSig c d.val = (owedSnd c 0 + owedSig c (d.val + 1)) + tallyAt (barCell (fwd c d)) () 1 := by
    rw [owedSig_step, add_assoc]
  iintro ⟨#HR, ⟨⟨%W, HO⟩, ⟨Htok, Hband⟩, Hrest⟩, Hk⟩
  simp only [semSignalWord]
  iapply (Rounds.wp_signal 𝒱₀ ER (rd m ρ) (c : Thread nD τ) none (dst := (fwd c d : Thread nD τ)) (κ := K (fwd c d, none))
      (d := back d) (by rw [duties_bar]; exact Finset.mem_univ _) ((amount_bar m ρ (fwd c d) (back d)).trans (by decide)) ()
      (owedSnd c 0 + owedSig c (d.val + 1)) hO)
    $$ [HO Htok Hband]
  · isplitr; · iapply (inv_at m ρ K (fwd c d, none)); iexact HR
    isplitl [HO]; · iexact HO
    isplitl [Htok]; · iexact Htok
    isplitl [Hband]
    · rw [payload_bar]; unfold barPay; rw [fwd_back]; iexact Hband
    · iapply (reached_at m ρ K (fwd c d, none)); iexact HR
  iintro HO
  rw [wp_ret]; imodintro
  iapply Hk
  isplitl [HO]
  · iexists W; iexact HO
  · iexact Hrest

/-! ## The loads and stores of the first half -/

/-- The send buffer of device `c`, whole. -/
def sendPts (c : Dev nD) (f : SendBuf F) : sProp 𝕄 := ((c : Thread nD τ).loc cc0_scratch0) ↦{fullShare} f

/-- A load from the send buffer changes nothing. -/
theorem step_load_send (c : Dev nD) (r : LoadRect S8x128x128) (hl : sM.view.LoadsAt r) (f : SendBuf F) :
    Step m ρ K c (sendPts c f) (Prog.lift (.load sM r hl))
      (sM.view.readAt (Elt F) r f)
      (sendPts c f) := by
  intro Kt
  unfold sendPts
  iintro ⟨-, H, Hk⟩
  simp only [Prog.lift]
  iapply (wp_load 𝒱₀ (c : Thread nD τ) none Set.univ (m := sM) (Finset.subset_univ _)) $$ H; iintro H
  rw [wp_ret]; imodintro
  iapply Hk; iexact H

/-- Storing slot `j`'s value fills slot `j`, the earlier ones being filled. -/
theorem step_fill (c j : Dev nD) (off : Fin 3 → ℕ) (inb : ∀ a, off a + S1x128x128.size a ≤ S8x128x128.size a) (hoff : off = ![j.val, 0, 0])
    (h : S128x1024.Slices ![0, 128 * j.val] S128x128) (y : Prod F) (f : SendBuf F) (pay : S1x128x128.Idx → Elt F .bf16)
    (hpay : pay = slotPay (128 * j.val) h y) (i i' : ℕ) (hi : j.val = i) (hi' : j.val + 1 = i')
    (hx : (sM.access (Rect.unit (s := S8x128x128) off S1x128x128.size inb)).Stores Finset.univ)
    (hm : (Finset.univ : Finset (Rect.unit (s := S8x128x128) off S1x128x128.size inb).shape.Idx) = Finset.univ ∨ ∀ a, (Rect.unit (s := S8x128x128) off S1x128x128.size inb).stride a = 1) :
    Step m ρ K c (sendPts c (filled i y f)) (Prog.lift (.store sM (Rect.unit (s := S8x128x128) off S1x128x128.size inb) pay Finset.univ hx hm))
      ⟨⟩
      (sendPts c (filled i' y f)) := by
  intro Kt
  subst hpay hi hi'
  rw [← store_slot j off inb hoff h y f]
  unfold sendPts
  iintro ⟨-, H, Hk⟩
  simp only [Prog.lift]
  iapply (wp_store 𝒱₀ (c : Thread nD τ) none Set.univ (m := sM) (r := Rect.unit (s := S8x128x128) off S1x128x128.size inb) (Mk := Finset.univ)
    (Finset.subset_univ _)) $$ H; iintro H
  rw [wp_ret]; imodintro
  iapply Hk; iexact H

/-! ## The barrier -/

/-- The wait for all seven signals brings the seven bands, and the barrier's counter back at zero. -/
theorem step_barrier (c : Dev nD) :
    Step m ρ K c iprop(owesW c (owedSnd c 0) ∗ cred (tallyAt (barCell c) () 7) ∗ atPos ER (barCell c) 0 ∅ 0) (semWaitWord barS 7#32)
      ⟨⟩
      iprop(owesW c (owedSnd c 0) ∗ semVal (barCell c) 0 ∗ (bigSep Finset.univ fun e => barPay (F := F) c e)) := by
  intro Kt
  unfold owesW
  iintro ⟨#HR, ⟨⟨%W, HO⟩, Hc, Hat⟩, Hk⟩
  simp only [semWaitWord]
  iapply (Rounds.wp_wait_rest_token 𝒱₀ ER (rd m ρ) (c : Thread nD τ) none (κ := K (c, none))
      (wpE_semWait_eq 𝒱₀ (c : Thread nD τ) none Set.univ) (Set.mem_univ _) () (O := owedSnd c 0) (W := W) (R := 0) (m := 0) (T := ∅)
      (by rw [expect_bar]; decide)) $$ [Hc HO Hat]
  · isplitr; · iapply (inv_at m ρ K (c, none)); iexact HR
    isplitl [Hc]; · iexact Hc
    isplitl [HO]; · iexact HO
    isplitr; · iapply (mayWait_bar c); iapply (levels_at m ρ K); iexact HR
    iexact Hat
  iintro ⟨HO, Hat, -, Hpay⟩
  ihave Hp := (Entails.of_eq (rest_bar m ρ c)) $$ Hpay
  imod (Rounds.cell_close ER (rd m ρ) (Set.mem_univ (K (c, none))) (fun h => h) (R := 0 + 1) (duties_later m ρ (barCell c))) $$ [Hat] with Hz
  · isplitr; · iapply (inv_at m ρ K (c, none)); iexact HR
    iexact Hat
  rw [wp_ret]; imodintro
  iapply Hk
  isplitl [HO]; · iexists _; iexact HO
  isplitl [Hz] <;> iassumption

/-! ## A transfer -/

/-- What transfer `d` takes: its two tokens, the slot it reads, the band it fills. -/
def sndIn (c : Dev nD) (d : Fin 7) : sProp 𝕄 :=
  iprop(dutyTok ER (sendCell c d) 0 0 ∗ dutyTok ER (recvCell (fwd c d) c) 0 0 ∗ slotPts c (fwd c d) (sendAt m ρ c) ∗ ∃ f : OutBuf F, bandPts (fwd c d) c f)
/-- Before transfer `i`: what is owed, what the transfers to come take, the credits of those started. -/
def Snd (c : Dev nD) (i : ℕ) : sProp 𝕄 :=
  iprop(owesW c (owedSnd c i) ∗ bigSep (todo i) (fun d => sndIn m ρ c d) ∗ bigSep (done i) fun d => cred (tallyAt (sendCell c d) () N))

theorem step_send (c n : Dev nD) (d : Fin 7) (hn : n = fwd c d) (i i' : ℕ) (hi : d.val = i) (hi' : d.val + 1 = i')
    (off : Fin 2 → ℕ) (inb : ∀ a, off a + S128x128.size a ≤ S1024x128.size a) (hoff : off = ![128 * c.val, 0])
    (off' : Fin 3 → ℕ) (inb' : ∀ a, off' a + S1x128x128.size a ≤ S8x128x128.size a) (hoff' : off' = ![(fwd c d).val, 0, 0])
    (qs qr : DmaSem sig) (hqs : qs = sendS d) (hqr : qr = recvS c)
    {hsc : (rowM off inb : Memref sig (Dev.tc n : Thread nD τ).2.kind .vmem S128x128 .bf16).view.ref.isScScratch = false}
    {hsrc : (slotM off' inb').view.WordExact} {hdst : (rowM off inb).view.WordExact}
    {hsem : DmaTarget.Typed .vmem (.dma qr) (.remote (Dev.tc n : Thread nD τ) (rowM off inb : Memref sig (Dev.tc n : Thread nD τ).2.kind .vmem S128x128 .bf16) (.dma qs) hsc)} :
    Step m ρ K c (Snd m ρ c i) (Prog.lift (.enqueueDma (slotM off' inb') (.remote (Dev.tc n : Thread nD τ) (rowM off inb) (.dma qs) hsc) (.dma qr) hsrc hdst hsem))
      ⟨⟩
      (Snd m ρ c i') := by
  intro Kt
  subst hn hi hi' hqs hqr
  unfold Snd owesW
  rw [bigSep_todo, bigSep_done]
  unfold sndIn
  iintro ⟨#HR, ⟨⟨%W, HO⟩, ⟨⟨HtS, HtV, Hslot, ⟨%f, Hband⟩⟩, Hrest⟩, Hcr⟩, Hk⟩
  ihave Hslot := (Entails.of_eq (slot_view c (fwd c d) off' inb' hoff' (sendAt m ρ c)).symm) $$ Hslot
  ihave Hband := (Entails.of_eq (band_view (fwd c d) c off inb hoff f).symm) $$ Hband
  simp only [Prog.lift]
  iapply (Rounds.wp_send_pointsTo 𝒱₀ ER (rd m ρ) (c : Thread nD τ) none (κ₁ := K (c, some (.inl d))) (κ₂ := K (fwd c d, some (.inr c)))
    (c' := (fwd c d : Thread nD τ)) (src := slotM off' inb') (dst := rowM off inb) (sS := .dma (sendS d)) (sem := .dma (recvS c))
    (r₁ := 0) (r₂ := 0) (d₁ := 0) (d₂ := 0) (fd := f) (fs := sendAt m ρ c)
    (by rw [duties_send]; exact Finset.mem_singleton_self _)
    (by rw [duties_recv m ρ (fwd c d) c (fwd_ne c d).symm]; exact Finset.mem_singleton_self _)
    () () N (N_row off inb) (amount_send m ρ c d 0) (amount_recv m ρ (fwd c d) c 0) (owedSnd c (d.val + 1)) (owedSnd_step c d) (W := W)
    (by rw [payload_send, slot_view c (fwd c d) off' inb' hoff'])
    (by
      rw [payload_recv]
      refine (Entails.of_eq (band_view (fwd c d) c off inb hoff _)).trans (Entails.of_eq (band_congr _ _ _ _ fun i hi => ?_))
      exact landed (yAt m ρ) (fwd c d) c off inb hoff off' inb' hoff' f i hi)) $$ [Hslot Hband HO HtS HtV]
  · isplitr; · iapply (inv_at m ρ K (c, some (.inl d))); iexact HR
    isplitr; · iapply (inv_at m ρ K (fwd c d, some (.inr c))); iexact HR
    isplitl [Hslot]; · iexact Hslot
    isplitl [Hband]; · iexact Hband
    isplitl [HO]; · iexact HO
    isplitl [HtS]; · iexact HtS
    isplitr; · iapply (reached_at m ρ K (c, some (.inl d))); iexact HR
    isplitl [HtV]; · iexact HtV
    iapply (reached_at m ρ K (fwd c d, some (.inr c))); iexact HR
  iintro ⟨Hc, HO⟩
  rw [wp_ret]; imodintro
  iapply Hk
  isplitl [HO]; · iexists W; iexact HO
  isplitl [Hrest]; · iexact Hrest
  isplitl [Hc] <;> iassumption

/-! ## The copy of the device's own slot -/

/-- The device's own slot and own band; the band is as it is to be once the tests have passed the device's number. -/
def Mine (c : Dev nD) (i : ℕ) : sProp 𝕄 :=
  iprop(slotPts c c (sendAt m ρ c) ∗ ∃ f : OutBuf F, ⌜c.val < i → ∀ k ∈ rowSet c, f k = outAt m ρ c k⌝ ∗ bandPts c c f)

theorem step_own (c j : Dev nD) (i i' : ℕ) (hi : j.val = i) (hi' : j.val + 1 = i') (cond : BitVec 1) (hcond : cond = 1#1 ↔ c = j)
    (off : Fin 2 → ℕ) (inb : ∀ a, off a + S128x128.size a ≤ S1024x128.size a) (hoff : off = ![128 * j.val, 0])
    (off' : Fin 3 → ℕ) (inb' : ∀ a, off' a + S1x128x128.size a ≤ S8x128x128.size a) (hoff' : off' = ![j.val, 0, 0])
    (pay : Vec F S1x128x128 .bf16 → FVec F S128x128 .bf16) (hpay : ∀ v, pay v = shapeCast S128x128 v shapeCasts_S1x128x128_S128x128)
    (hl' : sM.view.LoadsAt (Rect.unit (s := S8x128x128) off' S1x128x128.size inb').toLoadRect)
    (hl : oM.view.LoadsAt (Rect.unit (s := S1024x128) off S128x128.size inb).toLoadRect)
    (hx : (oM.access (Rect.unit (s := S1024x128) off S128x128.size inb)).Stores Finset.univ)
    (hm : (Finset.univ : Finset (Rect.unit (s := S1024x128) off S128x128.size inb).shape.Idx) = Finset.univ ∨ ∀ a, (Rect.unit (s := S1024x128) off S128x128.size inb).stride a = 1) :
    Step m ρ K c (Mine m ρ c i) (α := PUnit) (if h : cond = 1#1 then (do
            let v : Vec F S1x128x128 .bf16 ← Prog.lift (.load sM (Rect.unit (s := S8x128x128) off' S1x128x128.size inb').toLoadRect hl')
            let w : Vec F S128x128 .bf16 ← Prog.lift (.load oM (Rect.unit (s := S1024x128) off S128x128.size inb).toLoadRect hl)
            Prog.lift (.store oM (Rect.unit (s := S1024x128) off S128x128.size inb) (pay v) Finset.univ hx hm)
            pure ⟨⟩)
          else pure ⟨⟩)
      ⟨⟩
      (Mine m ρ c i') := by
  intro Kt
  subst hi hi'
  unfold Mine
  iintro ⟨-, ⟨Hslot, ⟨%f, %hf, Hband⟩⟩, Hk⟩
  by_cases hc : c = j
  · subst hc
    rw [dif_pos (hcond.2 rfl)]
    simp only [Prog.lift, Prog.bind_op, Prog.bind_ret, Prog.pure_eq_ret]
    unfold slotPts bandPts
    iapply (wp_load_rect 𝒱₀ (c : Thread nD τ) none Set.univ (m := sM) (r := Rect.unit (s := S8x128x128) off' S1x128x128.size inb')
      (slot_access_set c off' inb' hoff').le) $$ Hslot; iintro Hslot
    iapply (wp_load_rect 𝒱₀ (c : Thread nD τ) none Set.univ (m := oM) (r := Rect.unit (s := S1024x128) off S128x128.size inb)
      (row_access_set c off inb hoff).le) $$ Hband; iintro Hband
    iapply (wp_store 𝒱₀ (c : Thread nD τ) none Set.univ (m := oM) (r := Rect.unit (s := S1024x128) off S128x128.size inb) (Mk := Finset.univ)
      (row_access_set c off inb hoff).le) $$ Hband; iintro Hband
    rw [wp_ret]; imodintro
    iapply Hk
    isplitl [Hslot]; · iexact Hslot
    iexists (oM.access (Rect.unit (s := S1024x128) off S128x128.size inb)).write (Elt F) f
      (pay ((sM.access (Rect.unit (s := S8x128x128) off' S1x128x128.size inb')).read (Elt F) (sendAt m ρ c))) Finset.univ
    isplitr
    · ipureintro
      intro _ k hk
      rw [hpay]
      exact copied (yAt m ρ) c off inb hoff off' inb' hoff' f k hk
    · iexact Hband
  · rw [dif_neg fun h => hc (hcond.1 h)]
    simp only [Prog.pure_eq_ret, runs]
    rw [wp_ret]; imodintro
    iapply Hk
    isplitl [Hslot]; · iexact Hslot
    iexists f
    isplitr
    · ipureintro
      intro h
      exact hf (by have : c.val ≠ j.val := fun e => hc (Fin.ext e); omega)
    · iexact Hband

/-- The test for slot `j`, followed by the rest of the body in both branches. -/
theorem own_then {c j : Dev nD} {i i' : ℕ} (hi : j.val = i) (hi' : j.val + 1 = i') {cond : BitVec 1} (hcond : cond = 1#1 ↔ c = j)
    {off : Fin 2 → ℕ} {inb : ∀ a, off a + S128x128.size a ≤ S1024x128.size a} (hoff : off = ![128 * j.val, 0])
    {off' : Fin 3 → ℕ} {inb' : ∀ a, off' a + S1x128x128.size a ≤ S8x128x128.size a} (hoff' : off' = ![j.val, 0, 0])
    {pay : Vec F S1x128x128 .bf16 → FVec F S128x128 .bf16} (hpay : ∀ v, pay v = shapeCast S128x128 v shapeCasts_S1x128x128_S128x128)
    {hl' : sM.view.LoadsAt (Rect.unit (s := S8x128x128) off' S1x128x128.size inb').toLoadRect}
    {hl : oM.view.LoadsAt (Rect.unit (s := S1024x128) off S128x128.size inb).toLoadRect}
    {hx : (oM.access (Rect.unit (s := S1024x128) off S128x128.size inb)).Stores Finset.univ}
    {hm : (Finset.univ : Finset (Rect.unit (s := S1024x128) off S128x128.size inb).shape.Idx) = Finset.univ ∨ ∀ a, (Rect.unit (s := S1024x128) off S128x128.size inb).stride a = 1}
    {β : Type} {rest : Prog (TpuEff nD τ sig (Elt F) Λ₀ .tc) β} {w : β} {R X' : sProp 𝕄}
    (hk : Step m ρ K c iprop(Mine m ρ c i' ∗ R) rest w X') :
    Step m ρ K c iprop(Mine m ρ c i ∗ R)
      (if h : cond = 1#1 then
          Prog.lift (.load sM (Rect.unit (s := S8x128x128) off' S1x128x128.size inb').toLoadRect hl') >>= fun v : Vec F S1x128x128 .bf16 =>
          Prog.lift (.load oM (Rect.unit (s := S1024x128) off S128x128.size inb).toLoadRect hl) >>= fun _ : Vec F S128x128 .bf16 =>
          Prog.lift (.store oM (Rect.unit (s := S1024x128) off S128x128.size inb) (pay v) Finset.univ hx hm) >>= fun _ => rest
        else rest) w X' := by
  have h := Step.bind m ρ K (Step.frame m ρ K R (step_own m ρ K c j i i' hi hi' cond hcond off inb hoff off' inb' hoff' pay hpay hl' hl hx hm))
    (k := fun _ => rest) hk
  by_cases hc : cond = 1#1
  · rw [dif_pos hc] at h ⊢
    simp only [Prog.lift, Prog.bind_op, Prog.bind_ret, Prog.pure_eq_ret] at h ⊢
    exact h
  · rw [dif_neg hc] at h ⊢
    simpa only [Prog.bind_ret, Prog.pure_eq_ret] using h

/-! ## The waits at the end -/

/-- Before arrival `i` is awaited: those to come, with their credits; of those past, the band and the counter at zero. -/
def Rcv (c : Dev nD) (i : ℕ) : sProp 𝕄 :=
  iprop(owesW c 0
    ∗ bigSep (todo i) (fun d => iprop(atPos ER (recvCell c (bwd c d)) 0 ∅ 0 ∗ cred (tallyAt (recvCell c (bwd c d)) () N)))
    ∗ bigSep (done i) fun d => iprop(bandPts c (bwd c d) (outAt m ρ c) ∗ semVal (recvCell c (bwd c d)) 0))

theorem step_recv (c : Dev nD) (d : Fin 7) (i i' : ℕ) (hi : d.val = i) (hi' : d.val + 1 = i')
    (off : Fin 2 → ℕ) (inb : ∀ a, off a + S128x128.size a ≤ S1024x128.size a) (q : DmaSem sig) (hq : q = recvS (bwd c d))
    {sp : Space} {s' : Shape} {e' : EltTy} {src : Memref sig (c : Thread nD τ).2.kind sp s' e'}
    {hsrc : src.view.WordExact} {hdst : (rowM off inb).view.WordExact} :
    Step m ρ K c (Rcv m ρ c i) (Prog.lift (.waitDma2 q src (rowM off inb) hsrc hdst))
      ⟨⟩
      (Rcv m ρ c i') := by
  intro Kt
  subst hi hi' hq
  unfold Rcv owesW
  rw [bigSep_todo, bigSep_done]
  iintro ⟨#HR, ⟨⟨%W, HO⟩, ⟨⟨Hat, Hc⟩, Hrest⟩, Hdone⟩, Hk⟩
  simp only [Prog.lift]
  iapply (Rounds.wp_wait_rest_token 𝒱₀ ER (rd m ρ) (c : Thread nD τ) none (κ := K (c, some (.inr (bwd c d)))) (k' := N)
      (fun Q => (wpE_waitDma2_eq 𝒱₀ (c : Thread nD τ) none Set.univ Q).trans (by rw [N_row off inb])) (Set.mem_univ _) () (O := 0) (W := W) (R := 0) (m := 0) (T := ∅)
      (by rw [Nat.zero_add, expect_recv m ρ c (bwd c d) (bwd_ne c d)])) $$ [Hc HO Hat]
  · isplitr; · iapply (inv_at m ρ K (c, some (.inr (bwd c d)))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c (bwd c d) (bwd_ne c d))) $$ Hpay
  imod (Rounds.cell_close ER (rd m ρ) (Set.mem_univ (K (c, some (.inr (bwd c d))))) (fun h => h) (R := 0 + 1) (duties_later m ρ (recvCell c (bwd c d)))) $$ [Hat] with Hz
  · isplitr; · iapply (inv_at m ρ K (c, some (.inr (bwd c d)))); iexact HR
    iexact Hat
  rw [wp_ret]; imodintro
  iapply Hk
  isplitl [HO]; · iexists _; iexact HO
  isplitl [Hrest]; · iexact Hrest
  isplitl [Hp Hz]
  · isplitl [Hp] <;> iassumption
  · iexact Hdone

/-- Before send `i` is awaited: those to come, with their credits; of those past, the slot and the counter at zero. -/
def Snt (c : Dev nD) (i : ℕ) : sProp 𝕄 :=
  iprop(owesW c 0
    ∗ bigSep (todo i) (fun d => iprop(atPos ER (sendCell c d) 0 ∅ 0 ∗ cred (tallyAt (sendCell c d) () N)))
    ∗ bigSep (done i) fun d => iprop(slotPts c (fwd c d) (sendAt m ρ c) ∗ semVal (sendCell c d) 0))

theorem step_sent (c : Dev nD) (d : Fin 7) (i i' : ℕ) (hi : d.val = i) (hi' : d.val + 1 = i')
    (off : Fin 3 → ℕ) (inb : ∀ a, off a + S1x128x128.size a ≤ S8x128x128.size a) (q : DmaSem sig) (hq : q = sendS d)
    {sp : Space} {s' : Shape} {e' : EltTy} {src : Memref sig (c : Thread nD τ).2.kind sp s' e'}
    {hsrc : src.view.WordExact} {hdst : (slotM off inb).view.WordExact} :
    Step m ρ K c (Snt m ρ c i) (Prog.lift (.waitDma2 q src (slotM off inb) hsrc hdst))
      ⟨⟩
      (Snt m ρ c i') := by
  intro Kt
  subst hi hi' hq
  unfold Snt owesW
  rw [bigSep_todo, bigSep_done]
  iintro ⟨#HR, ⟨⟨%W, HO⟩, ⟨⟨Hat, Hc⟩, Hrest⟩, Hdone⟩, Hk⟩
  simp only [Prog.lift]
  iapply (Rounds.wp_wait_rest_token 𝒱₀ ER (rd m ρ) (c : Thread nD τ) none (κ := K (c, some (.inl d))) (k' := N)
      (fun Q => (wpE_waitDma2_eq 𝒱₀ (c : Thread nD τ) none Set.univ Q).trans (by rw [N_slot off inb])) (Set.mem_univ _) () (O := 0) (W := W) (R := 0) (m := 0) (T := ∅)
      (by rw [Nat.zero_add, expect_send])) $$ [Hc HO Hat]
  · isplitr; · iapply (inv_at m ρ K (c, some (.inl d))); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c d)) $$ Hpay
  imod (Rounds.cell_close ER (rd m ρ) (Set.mem_univ (K (c, some (.inl d)))) (fun h => h) (R := 0 + 1) (duties_later m ρ (sendCell c d))) $$ [Hat] with Hz
  · isplitr; · iapply (inv_at m ρ K (c, some (.inl d))); iexact HR
    iexact Hat
  rw [wp_ret]; imodintro
  iapply Hk
  isplitl [HO]; · iexists _; iexact HO
  isplitl [Hrest]; · iexact Hrest
  isplitl [Hp Hz]
  · isplitl [Hp] <;> iassumption
  · iexact Hdone

end Cert.KernelIdeal.Own
-- ==== Proof.Parts.lean ====
/-
The parts of the body, one after another.

Every theorem takes one printed part of the body on device `c`: the signals, the product and its storing, the transfers,
the copy of the device's own slot, the waits. The words a part computes and hands on are of no account.
-/
module

public import proofs.«01_k».proof.Proof.Steps

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 7 ⊕ Dev nD) → ℕ)

/-- The staged block of `x` and the staged weights, as the body is handed them. -/
abbrev xM : Memref sig .tc .vmem S128x1024 .bf16 := Memref.whole cc0_stg0_0
abbrev wM : Memref sig .tc .vmem S1024x1024 .bf16 := Memref.whole cc0_stg1_0

variable (h0 : (xM).IsWhole) (h1 : (wM).IsWhole) (h2 : (oM).IsWhole) (h3 : (sM).IsWhole)

/-- The device's number, as the body computes it. -/
def word (c : Dev nD) : BitVec 32 := Scalar.remsi (Scalar.divsi (Dev.word c) 1#32) 8#32

/-- The staged block of `x` on device `c`. -/
def xPts (c : Dev nD) : sProp 𝕄 := ((c : Thread nD τ).loc cc0_stg0_0) ↦{fullShare} (xstg m ρ c)
/-- The staged weights on device `c`. -/
def wPts (c : Dev nD) : sProp 𝕄 := ((c : Thread nD τ).loc cc0_stg1_0) ↦{fullShare} (wstg m ρ c)

/-- Loading from a buffer that is held whole. -/
theorem step_load {s : Shape} {e : EltTy} (c : Dev nD) (M : Memref sig .tc .vmem s e) (r : LoadRect s) (hl : M.view.LoadsAt r)
    (f : Buf (Elt F) (M.view.loc (c : Thread nD τ))) (v : r.shape.Idx → Elt F e) (hv : M.view.readAt (Elt F) r f = v) :
    Step m ρ K c (M.view.loc (c : Thread nD τ) ↦{fullShare} f : sProp 𝕄) (Prog.lift (.load M r hl)) v (M.view.loc (c : Thread nD τ) ↦{fullShare} f) := by
  intro Kt
  subst hv
  iintro ⟨-, H, Hk⟩
  simp only [Prog.lift]
  iapply (wp_load 𝒱₀ (c : Thread nD τ) none Set.univ (m := M) (Finset.subset_univ _)) $$ H; iintro H
  rw [wp_ret]; imodintro
  iapply Hk; iexact H
/-- Loading all of the staged block of `x`. -/
theorem step_load_x (c : Dev nD) {inb : ∀ a, (![0, 0] : Fin 2 → ℕ) a + S128x1024.size a ≤ S128x1024.size a}
    {hl : xM.view.LoadsAt (Rect.unit (s := S128x1024) ![0, 0] S128x1024.size inb).toLoadRect} :
    Step m ρ K c (xPts m ρ c) (Prog.lift (.load xM (Rect.unit (s := S128x1024) ![0, 0] S128x1024.size inb).toLoadRect hl))
      (xstg m ρ c) (xPts m ρ c) :=
  step_load m ρ K c xM _ hl (xstg m ρ c) _ (Memref.readAt_unit_zero (Elt F) cc0_stg0_0 (by decide) inb _)
/-- Loading all of the staged weights. -/
theorem step_load_w (c : Dev nD) {inb : ∀ a, (![0, 0] : Fin 2 → ℕ) a + S1024x1024.size a ≤ S1024x1024.size a}
    {hl : wM.view.LoadsAt (Rect.unit (s := S1024x1024) ![0, 0] S1024x1024.size inb).toLoadRect} :
    Step m ρ K c (wPts m ρ c) (Prog.lift (.load wM (Rect.unit (s := S1024x1024) ![0, 0] S1024x1024.size inb).toLoadRect hl))
      (wstg m ρ c) (wPts m ρ c) :=
  step_load m ρ K c wM _ hl (wstg m ρ c) _ (Memref.readAt_unit_zero (Elt F) cc0_stg1_0 (by decide) inb _)

/-- Loading a slot whose value is not used, then storing slot `j`. -/
theorem fill_then {c j : Dev nD} {i i' : ℕ} (hi : j.val = i) (hi' : j.val + 1 = i')
    {off : Fin 3 → ℕ} {inb : ∀ a, off a + S1x128x128.size a ≤ S8x128x128.size a} (hoff : off = ![j.val, 0, 0])
    (h : S128x1024.Slices ![0, 128 * j.val] S128x128) {y : Prod F} {f : SendBuf F} {pay : S1x128x128.Idx → Elt F .bf16}
    (hpay : pay = slotPay (128 * j.val) h y)
    {hl : sM.view.LoadsAt (Rect.unit (s := S8x128x128) off S1x128x128.size inb).toLoadRect}
    {hx : (sM.access (Rect.unit (s := S8x128x128) off S1x128x128.size inb)).Stores Finset.univ}
    {hm : (Finset.univ : Finset (Rect.unit (s := S8x128x128) off S1x128x128.size inb).shape.Idx) = Finset.univ ∨ ∀ a, (Rect.unit (s := S8x128x128) off S1x128x128.size inb).stride a = 1}
    {β : Type} {rest : Prog (TpuEff nD τ sig (Elt F) Λ₀ .tc) β} {w : β} {R X' : sProp 𝕄}
    (hk : Step m ρ K c iprop(sendPts c (filled i' y f) ∗ R) rest w X') :
    Step m ρ K c iprop(sendPts c (filled i y f) ∗ R)
      (Prog.lift (.load sM (Rect.unit (s := S8x128x128) off S1x128x128.size inb).toLoadRect hl) >>= fun _ : Vec F S1x128x128 .bf16 =>
        Prog.lift (.store sM (Rect.unit (s := S8x128x128) off S1x128x128.size inb) pay Finset.univ hx hm) >>= fun _ => rest) w X' :=
  Step.bind m ρ K (Step.frame m ρ K R (step_load_send m ρ K c _ hl _))
    (Step.bind m ρ K (Step.frame m ρ K R (step_fill m ρ K c j off inb hoff h y f pay hpay i i' hi hi' hx hm)) hk)

/-- The semaphore of the arrivals from device `s`, at an offset known to be `s`. -/
theorem recvSem_at {s : Dev nD} {off : Fin 1 → ℕ} (h : off = ![s.val]) (inb : ∀ a, off a + S1.size a ≤ S8.size a) :
    ((cc0_scratch2.slice (Rect.unit (s := S8) off S1.size inb)).squeeze S_ squeezes_S1_S_).sem = recvS s := by
  subst h; exact recvSem_eq s inb

/-- Hop `d`'s transfer as it is printed. -/
theorem hop_send {c n : Dev nD} (d : Fin 7) (hn : n = fwd c d) {i i' : ℕ} (hi : d.val = i) (hi' : d.val + 1 = i')
    {b : BitVec 32} (hb : b = BitVec.ofNat 32 (1 + d.val))
    {inb : ∀ a, k0_off2 c a + S128x128.size a ≤ S1024x128.size a} {inb' : ∀ a, k0_off3 c b a + S1x128x128.size a ≤ S8x128x128.size a}
    {inbs : ∀ a, (![d.val] : Fin 1 → ℕ) a + S1.size a ≤ S7.size a} {inbr : ∀ a, k0_off1 c a + S1.size a ≤ S8.size a}
    {hsc : (rowM (k0_off2 c) inb : Memref sig (Dev.tc n : Thread nD τ).2.kind .vmem S128x128 .bf16).view.ref.isScScratch = false}
    {hsrc : (slotM (k0_off3 c b) inb').view.WordExact} {hdst : (rowM (k0_off2 c) inb).view.WordExact}
    {hsem : DmaTarget.Typed .vmem (.dma ((cc0_scratch2.slice (Rect.unit (s := S8) (k0_off1 c) S1.size inbr)).squeeze S_ squeezes_S1_S_).sem)
      (.remote (Dev.tc n : Thread nD τ) (rowM (k0_off2 c) inb : Memref sig (Dev.tc n : Thread nD τ).2.kind .vmem S128x128 .bf16)
        (.dma ((cc0_scratch1.slice (Rect.unit (s := S7) ![d.val] S1.size inbs)).squeeze S_ squeezes_S1_S_).sem) hsc)} :
    Step m ρ K c (Snd m ρ c i)
      (Prog.lift (.enqueueDma (slotM (k0_off3 c b) inb') (.remote (Dev.tc n : Thread nD τ) (rowM (k0_off2 c) inb)
        (.dma ((cc0_scratch1.slice (Rect.unit (s := S7) ![d.val] S1.size inbs)).squeeze S_ squeezes_S1_S_).sem) hsc)
        (.dma ((cc0_scratch2.slice (Rect.unit (s := S8) (k0_off1 c) S1.size inbr)).squeeze S_ squeezes_S1_S_).sem) hsrc hdst hsem))
      ⟨⟩ (Snd m ρ c i') := by
  subst hb
  exact step_send m ρ K c n d hn i i' hi hi' _ inb (k0_off2_eq c) _ inb' (off3_eq c d) _ _ (sendSem_eq d inbs) (recvSem_at (k0_off1_eq c) inbr)

/-- Hop `d`'s arrival as it is printed. -/
theorem hop_recv {c : Dev nD} (d : Fin 7) {i i' : ℕ} (hi : d.val = i) (hi' : d.val + 1 = i')
    {b : BitVec 32} (hb : b = BitVec.ofNat 32 (1 + d.val))
    {off : Fin 2 → ℕ} {inb : ∀ a, off a + S128x128.size a ≤ S1024x128.size a} {inbr : ∀ a, k0_off4 c b a + S1.size a ≤ S8.size a}
    {src : Memref sig .tc .vmem S128x128 .bf16} {hsrc : src.view.WordExact} {hdst : (rowM off inb).view.WordExact} :
    Step m ρ K c (Rcv m ρ c i)
      (Prog.lift (.waitDma2 ((cc0_scratch2.slice (Rect.unit (s := S8) (k0_off4 c b) S1.size inbr)).squeeze S_ squeezes_S1_S_).sem src (rowM off inb) hsrc hdst))
      ⟨⟩ (Rcv m ρ c i') := by
  subst hb
  exact step_recv m ρ K c d i i' hi hi' _ inb _ (recvSem_at (off4_eq c d) inbr)

/-- Hop `d`'s completed send as it is printed. -/
theorem hop_sent {c : Dev nD} (d : Fin 7) {i i' : ℕ} (hi : d.val = i) (hi' : d.val + 1 = i')
    {off : Fin 3 → ℕ} {inb : ∀ a, off a + S1x128x128.size a ≤ S8x128x128.size a} {inbs : ∀ a, (![d.val] : Fin 1 → ℕ) a + S1.size a ≤ S7.size a}
    {src : Memref sig .tc .vmem S128x128 .bf16} {hsrc : src.view.WordExact} {hdst : (slotM off inb).view.WordExact} :
    Step m ρ K c (Snt m ρ c i)
      (Prog.lift (.waitDma2 ((cc0_scratch1.slice (Rect.unit (s := S7) ![d.val] S1.size inbs)).squeeze S_ squeezes_S1_S_).sem src (slotM off inb) hsrc hdst))
      ⟨⟩ (Snt m ρ c i') :=
  step_sent m ρ K c d i i' hi hi' _ inb _ (sendSem_eq d inbs)

/-- The first of two steps, the second returning some value. -/
theorem bindE {c : Dev nD} {X X' X'' : sProp 𝕄} {α β : Type} {p : Prog (TpuEff nD τ sig (Elt F) Λ₀ .tc) α} {v : α}
    {k : α → Prog (TpuEff nD τ sig (Elt F) Λ₀ .tc) β} (hp : Step m ρ K c X p v X') (hk : ∃ w, Step m ρ K c X' (k v) w X'') :
    ∃ w, Step m ρ K c X (p >>= k) w X'' :=
  hk.imp fun _ h => Step.bind m ρ K hp h

/-! ## The signals -/

/-- The first two signals; the body learns its device's number. -/
theorem part1 (c : Dev nD) : ∃ a b e, Step m ρ K c (Sig (F := F) c 0)
    (k0_part1 (F := F) xM h0 wM h1 oM h2 sM h3 cc0_scratch1 cc0_scratch2) ⟨c, word c, SemArray.scalar (sig.barrier 0 rfl), a, b, e⟩ (Sig (F := F) c 2) := by
  apply Exists.intro; apply Exists.intro; apply Exists.intro
  rw [k0_part1_eq_skeleton]; unfold k0_part1_skel
  refine Step.bind m ρ K (step_deviceId m ρ K c) ?_
  refine Step.bind m ρ K (step_signal m ρ K c _ 0 (dev1_eq c) 0 1 rfl rfl) ?_
  refine Step.bind m ρ K (step_signal m ρ K c _ 1 (dev2_eq c) 1 2 rfl rfl) ?_
  exact Step.pure m ρ K

/-- The third and fourth signals. -/
theorem part2 (c : Dev nD) (v2 v30 c8 : BitVec 32) (v31 : BitVec 1) : ∃ w, Step m ρ K c (Sig (F := F) c 2)
    (k0_part2 (F := F) xM h0 wM h1 oM h2 sM h3 cc0_scratch1 cc0_scratch2 c v2 (SemArray.scalar (sig.barrier 0 rfl)) v30 c8 v31) w (Sig (F := F) c 4) := by
  rw [k0_part2_eq_skeleton]; unfold k0_part2_skel
  refine bindE m ρ K (step_signal m ρ K c _ 2 (dev3_eq c) 2 3 rfl rfl) ?_
  refine bindE m ρ K (step_signal m ρ K c _ 3 (dev4_eq c) 3 4 rfl rfl) ?_
  exact ⟨_, Step.pure m ρ K⟩

/-- The last three signals, and the load of the staged block of `x`. -/
theorem part3 (c : Dev nD) (v2 v59 v65 : BitVec 32) (v64 : BitVec 1) : Step m ρ K c iprop(Sig (F := F) c 4 ∗ xPts m ρ c)
    (k0_part3 (F := F) xM h0 wM h1 oM h2 sM h3 cc0_scratch1 cc0_scratch2 c v2 (SemArray.scalar (sig.barrier 0 rfl)) v59 v64 v65) (k0_pay1 (xstg m ρ c)) iprop(xPts m ρ c ∗ Sig (F := F) c 7) := by
  rw [k0_part3_eq_skeleton]; unfold k0_part3_skel
  refine Step.bind m ρ K (Step.frame m ρ K _ (step_signal m ρ K c _ 4 (dev5_eq c) 4 5 rfl rfl)) ?_
  refine Step.bind m ρ K (Step.frame m ρ K _ (step_signal m ρ K c _ 5 (dev6_eq c) 5 6 rfl rfl)) ?_
  refine Step.bind m ρ K (Step.frame m ρ K _ (step_signal m ρ K c _ 6 (dev7_eq c) 6 7 rfl rfl)) ?_
  refine Step.pre m ρ K (sep_comm (PROP := sProp 𝕄)).1 ?_
  refine Step.bind m ρ K (Step.frame m ρ K _ (step_load_x m ρ K c)) ?_
  exact Step.pure m ρ K

/-! ## The product and its storing -/

/-- The load of the weights, the product, and the storing of slots 0 to 5. -/
theorem part4 (c : Dev nD) (f : SendBuf F) : Step m ρ K c iprop(wPts m ρ c ∗ sendPts c (filled 0 (yAt m ρ c) f))
    (k0_part4 (F := F) xM h0 wM h1 oM h2 sM h3 cc0_scratch1 cc0_scratch2 (k0_pay1 (xstg m ρ c))) ⟨yAt m ρ c, k0_pay9 (k0_pay1 (xstg m ρ c)) (wstg m ρ c)⟩ iprop(sendPts c (filled 6 (yAt m ρ c) f) ∗ wPts m ρ c) := by
  rw [k0_part4_eq_skeleton]; unfold k0_part4_skel
  refine Step.bind m ρ K (Step.frame m ρ K _ (step_load_w m ρ K c)) ?_
  refine Step.pre m ρ K (sep_comm (PROP := sProp 𝕄)).1 ?_
  refine fill_then m ρ K (j := 0) rfl rfl rfl slices_S128x1024_o0_0_S128x128 rfl ?_
  refine fill_then m ρ K (j := 1) rfl rfl rfl slices_S128x1024_o0_128_S128x128 rfl ?_
  refine fill_then m ρ K (j := 2) rfl rfl rfl slices_S128x1024_o0_256_S128x128 rfl ?_
  refine fill_then m ρ K (j := 3) rfl rfl rfl slices_S128x1024_o0_384_S128x128 rfl ?_
  refine fill_then m ρ K (j := 4) rfl rfl rfl slices_S128x1024_o0_512_S128x128 rfl ?_
  refine fill_then m ρ K (j := 5) rfl rfl rfl slices_S128x1024_o0_640_S128x128 rfl ?_
  exact Step.pure m ρ K

/-! ## The transfers, the device's own slot, the waits -/

/-- The second transfer. -/
theorem part6 (c : Dev nD) (v2 a b : BitVec 32) : Step m ρ K c (Snd m ρ c 1)
    (k0_part6 (F := F) xM h0 wM h1 oM h2 sM h3 cc0_scratch1 cc0_scratch2 c v2 a b) ⟨⟩ (Snd m ρ c 2) := by
  rw [k0_part6_eq_skeleton]; unfold k0_part6_skel
  refine Step.bind m ρ K (hop_send m ρ K 1 (dev9_eq c) rfl rfl rfl) ?_
  exact Step.pure m ρ K

/-- The third and fourth transfers. -/
theorem part7 (c : Dev nD) (v2 : BitVec 32) : ∃ w, Step m ρ K c (Snd m ρ c 2)
    (k0_part7 (F := F) xM h0 wM h1 oM h2 sM h3 cc0_scratch1 cc0_scratch2 c v2) w (Snd m ρ c 4) := by
  rw [k0_part7_eq_skeleton]; unfold k0_part7_skel
  refine bindE m ρ K (hop_send m ρ K 2 (dev10_eq c) rfl rfl rfl) ?_
  refine bindE m ρ K (hop_send m ρ K 3 (dev11_eq c) rfl rfl rfl) ?_
  exact ⟨_, Step.pure m ρ K⟩

/-- The fifth and sixth transfers. -/
theorem part8 (c : Dev nD) (v2 a : BitVec 32) : ∃ w, Step m ρ K c (Snd m ρ c 4)
    (k0_part8 (F := F) xM h0 wM h1 oM h2 sM h3 cc0_scratch1 cc0_scratch2 c v2 a) w (Snd m ρ c 6) := by
  rw [k0_part8_eq_skeleton]; unfold k0_part8_skel
  refine bindE m ρ K (hop_send m ρ K 4 (dev12_eq c) rfl rfl rfl) ?_
  refine bindE m ρ K (hop_send m ρ K 5 (dev13_eq c) rfl rfl rfl) ?_
  exact ⟨_, Step.pure m ρ K⟩

/-- The last transfer, and the tests for slots 0 to 4. -/
theorem part9 (c : Dev nD) (a b : BitVec 32) : Step m ρ K c iprop(Snd m ρ c 6 ∗ Mine m ρ c 0)
    (k0_part9 (F := F) xM h0 wM h1 oM h2 sM h3 cc0_scratch1 cc0_scratch2 c (word c) a b) (Scalar.cmpi .eq (word c) 5#32) iprop(Mine m ρ c 5 ∗ Snd m ρ c 7) := by
  rw [k0_part9_eq_skeleton]; unfold k0_part9_skel
  refine Step.bind m ρ K (Step.frame m ρ K _ (hop_send m ρ K 6 (dev14_eq c) rfl rfl rfl)) ?_
  refine Step.pre m ρ K (sep_comm (PROP := sProp 𝕄)).1 ?_
  refine own_then m ρ K (j := 0) rfl rfl (own_cond c 0) rfl rfl (fun _ => rfl) ?_
  refine own_then m ρ K (j := 1) rfl rfl (own_cond c 1) rfl rfl (fun _ => rfl) ?_
  refine own_then m ρ K (j := 2) rfl rfl (own_cond c 2) rfl rfl (fun _ => rfl) ?_
  refine own_then m ρ K (j := 3) rfl rfl (own_cond c 3) rfl rfl (fun _ => rfl) ?_
  refine own_then m ρ K (j := 4) rfl rfl (own_cond c 4) rfl rfl (fun _ => rfl) ?_
  exact Step.pure m ρ K

/-- The tests for slots 5 to 7, and the wait for the first arrival. -/
theorem part10 (c : Dev nD) : ∃ a b e, Step m ρ K c iprop(Mine m ρ c 5 ∗ Rcv m ρ c 0)
    (k0_part10 (F := F) xM h0 wM h1 oM h2 sM h3 cc0_scratch1 cc0_scratch2 c (word c) (Scalar.cmpi .eq (word c) 5#32)) ⟨a, b, e⟩ iprop(Rcv m ρ c 1 ∗ Mine m ρ c 8) := by
  apply Exists.intro; apply Exists.intro; apply Exists.intro
  rw [k0_part10_eq_skeleton]; unfold k0_part10_skel
  refine own_then m ρ K (j := 5) rfl rfl (own_cond c 5) rfl rfl (fun _ => rfl) ?_
  refine own_then m ρ K (j := 6) rfl rfl (own_cond c 6) rfl rfl (fun _ => rfl) ?_
  refine own_then m ρ K (j := 7) rfl rfl (own_cond c 7) rfl rfl (fun _ => rfl) ?_
  refine Step.pre m ρ K (sep_comm (PROP := sProp 𝕄)).1 ?_
  refine Step.bind m ρ K (Step.frame m ρ K _ (hop_recv m ρ K 0 rfl rfl rfl)) ?_
  exact Step.pure m ρ K

/-- The second and third arrivals. -/
theorem part11 (c : Dev nD) (v2 a b : BitVec 32) (e : BitVec 1) : ∃ w, Step m ρ K c (Rcv m ρ c 1)
    (k0_part11 (F := F) xM h0 wM h1 oM h2 sM h3 cc0_scratch1 cc0_scratch2 c v2 a b e) w (Rcv m ρ c 3) := by
  rw [k0_part11_eq_skeleton]; unfold k0_part11_skel
  refine bindE m ρ K (hop_recv m ρ K 1 rfl rfl rfl) ?_
  refine bindE m ρ K (hop_recv m ρ K 2 rfl rfl rfl) ?_
  exact ⟨_, Step.pure m ρ K⟩

/-- The fourth arrival. -/
theorem part12 (c : Dev nD) (v2 a : BitVec 32) : Step m ρ K c (Rcv m ρ c 3)
    (k0_part12 (F := F) xM h0 wM h1 oM h2 sM h3 cc0_scratch1 cc0_scratch2 c v2 a) ⟨⟩ (Rcv m ρ c 4) := by
  rw [k0_part12_eq_skeleton]; unfold k0_part12_skel
  refine Step.bind m ρ K (hop_recv m ρ K 3 rfl rfl rfl) ?_
  exact Step.pure m ρ K

/-- The fifth and sixth arrivals. -/
theorem part13 (c : Dev nD) (v2 : BitVec 32) : ∃ w, Step m ρ K c (Rcv m ρ c 4)
    (k0_part13 (F := F) xM h0 wM h1 oM h2 sM h3 cc0_scratch1 cc0_scratch2 c v2) w (Rcv m ρ c 6) := by
  rw [k0_part13_eq_skeleton]; unfold k0_part13_skel
  refine bindE m ρ K (hop_recv m ρ K 4 rfl rfl rfl) ?_
  refine bindE m ρ K (hop_recv m ρ K 5 rfl rfl rfl) ?_
  exact ⟨_, Step.pure m ρ K⟩

/-- What the waits for the sends take besides what is owed. -/
def sntIn (c : Dev nD) : sProp 𝕄 :=
  bigSep Finset.univ fun d => iprop(atPos ER (sendCell c d) 0 ∅ 0 ∗ cred (tallyAt (sendCell c d) () N))
/-- All arrivals past: the bands and the counters at zero. -/
def rcvOut (c : Dev nD) : sProp 𝕄 :=
  bigSep Finset.univ fun d => iprop(bandPts c (bwd c d) (outAt m ρ c) ∗ semVal (recvCell c (bwd c d)) 0)
/-- After the last arrival the waits for the sends may start. -/
theorem rcv_snt (c : Dev nD) : iprop(Rcv m ρ c 7 ∗ sntIn (F := F) c) ⊢ iprop(Snt m ρ c 0 ∗ rcvOut m ρ c) := by
  unfold Rcv Snt sntIn rcvOut
  rw [todo_all, todo_zero, done_zero, done_all, bigSep_empty, bigSep_empty]
  iintro ⟨⟨HO, -, Hd⟩, Hs⟩
  isplitl [HO Hs]
  · isplitl [HO]; · iexact HO
    isplitl [Hs]; · iexact Hs
    iempintro
  · iexact Hd

/-- The last arrival and the first four completed sends. -/
theorem part14 (c : Dev nD) (v : BitVec 32) : Step m ρ K c iprop(Rcv m ρ c 6 ∗ sntIn (F := F) c)
    (k0_part14 (F := F) xM h0 wM h1 oM h2 sM h3 cc0_scratch1 cc0_scratch2 c v) ⟨⟩ iprop(Snt m ρ c 4 ∗ rcvOut m ρ c) := by
  rw [k0_part14_eq_skeleton]; unfold k0_part14_skel
  refine Step.bind m ρ K (Step.frame m ρ K _ (hop_recv m ρ K 6 rfl rfl rfl)) ?_
  refine Step.pre m ρ K (rcv_snt m ρ c) ?_
  refine Step.bind m ρ K (Step.frame m ρ K _ (hop_sent m ρ K 0 rfl rfl)) ?_
  refine Step.bind m ρ K (Step.frame m ρ K _ (hop_sent m ρ K 1 rfl rfl)) ?_
  refine Step.bind m ρ K (Step.frame m ρ K _ (hop_sent m ρ K 2 rfl rfl)) ?_
  refine Step.bind m ρ K (Step.frame m ρ K _ (hop_sent m ρ K 3 rfl rfl)) ?_
  exact Step.pure m ρ K

end Cert.KernelIdeal.Own
-- ==== Proof.Body.lean ====
/-
The body of the kernel on one device, from what it starts with to what it ends with.
-/
module

public import proofs.«01_k».proof.Proof.Parts

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 7 ⊕ Dev nD) → ℕ)

variable (h0 : (xM).IsWhole) (h1 : (wM).IsWhole) (h2 : (oM).IsWhole) (h3 : (sM).IsWhole)

/-! ## The pieces of the buffers -/

/-- The devices are the device itself and the seven that the hops lead to. -/
theorem univ_fwd (c : Dev nD) : (Finset.univ : Finset (Dev nD)) = insert c (Finset.univ.map ⟨fwd c, fwd_inj c⟩) := by
  revert c; decide
theorem univ_bwd (c : Dev nD) : (Finset.univ : Finset (Dev nD)) = insert c (Finset.univ.map ⟨bwd c, bwd_inj c⟩) := by
  revert c; decide
theorem around_fwd (c : Dev nD) (Φ : Dev nD → sProp 𝕄) : bigSep Finset.univ Φ = iprop(Φ c ∗ bigSep Finset.univ fun d => Φ (fwd c d)) := by
  rw [univ_fwd c, bigSep_insert (by revert c; decide), bigSep_map]; rfl
theorem around_bwd (c : Dev nD) (Φ : Dev nD → sProp 𝕄) : bigSep Finset.univ Φ = iprop(Φ c ∗ bigSep Finset.univ fun d => Φ (bwd c d)) := by
  rw [univ_bwd c, bigSep_insert (by revert c; decide), bigSep_map]; rfl

/-- The slots, as pieces of the send buffer on device `c`, share nothing and make it up. -/
theorem slot_dis (c a b : Dev nD) (h : a ≠ b) : @Disjoint (Finset (Idx ((c : Thread nD τ).loc cc0_scratch0))) _ _ (slotSet a) (slotSet b) :=
  slot_disjoint a b h
theorem slot_cov (c : Dev nD) :
    (Finset.univ : Finset (Dev nD)).biUnion (fun j => (slotSet j : Finset (Idx ((c : Thread nD τ).loc cc0_scratch0)))) = Finset.univ :=
  Finset.eq_univ_of_forall fun i => Finset.mem_biUnion.2 ⟨(i 0 : Fin 8), Finset.mem_univ _, (mem_slotSet _ i).2 rfl⟩
/-- The bands, as pieces of the output block on device `c`, share nothing and make it up. -/
theorem band_dis (c a b : Dev nD) (h : a ≠ b) : @Disjoint (Finset (Idx ((c : Thread nD τ).loc cc0_stg2_0))) _ _ (rowSet a) (rowSet b) :=
  row_disjoint a b h
theorem band_cov (c : Dev nD) :
    (Finset.univ : Finset (Dev nD)).biUnion (fun j => (rowSet j : Finset (Idx ((c : Thread nD τ).loc cc0_stg2_0)))) = Finset.univ :=
  Finset.eq_univ_of_forall fun i => Finset.mem_biUnion.2
    ⟨⟨(i 0).val / 128, by have h : (i 0).val < 1024 := (i 0).isLt; show _ < 8; omega⟩, Finset.mem_univ _, (mem_rowSet _ i).2 rfl⟩

/-- The send buffer is its eight slots. -/
theorem send_slots (c : Dev nD) (f : SendBuf F) : (sendPts c f : sProp 𝕄) = bigSep Finset.univ fun j => slotPts c j f := by
  have h := Ring.pointsTo_blocks (Ix := Unit) (Val := Elt F) (Name := ℕ) (U := UU) (Lvl := ℕ) (ℓ := (c : Thread nD τ).loc cc0_scratch0)
    (fun j => slotSet j) (slot_dis c) (slot_cov c) (q := fullShare) f
  exact h
/-- The output block is its eight bands. -/
theorem out_bands (c : Dev nD) (f : OutBuf F) :
    ((((c : Thread nD τ).loc cc0_stg2_0) ↦{fullShare} f) : sProp 𝕄) = bigSep Finset.univ fun s => bandPts c s f := by
  have h := Ring.pointsTo_blocks (Ix := Unit) (Val := Elt F) (Name := ℕ) (U := UU) (Lvl := ℕ) (ℓ := (c : Thread nD τ).loc cc0_stg2_0)
    (fun s => rowSet s) (band_dis c) (band_cov c) (q := fullShare) f
  exact h

/-! ## From the signals to the first transfer -/

/-- What the transfers take besides the slots and the bands. -/
def toks (c : Dev nD) : sProp 𝕄 :=
  bigSep Finset.univ fun d => iprop(dutyTok ER (sendCell c d) 0 0 ∗ dutyTok ER (recvCell (fwd c d) c) 0 0)
/-- What the barrier takes besides what is owed. -/
def barIn (c : Dev nD) : sProp 𝕄 := iprop(cred (tallyAt (barCell c) () 7) ∗ atPos ER (barCell c) 0 ∅ 0)

/-- Once the signals are sent, only the transfers are owed. -/
theorem sig_done (c : Dev nD) : (Sig (F := F) c 7 : sProp 𝕄) ⊢ owesW c (owedSnd c 0) := by
  unfold Sig
  rw [owedSig_all, add_zero, todo_all, bigSep_empty]
  iintro ⟨H, -⟩; iexact H

/-- With all slots stored and the bands of the other devices at hand, the transfers may start. -/
theorem start_send (c : Dev nD) (f : SendBuf F) :
    iprop(sendPts c (filled 8 (yAt m ρ c) f) ∗ owesW c (owedSnd c 0) ∗ toks (F := F) c ∗ (bigSep Finset.univ fun e => barPay (F := F) c e))
      ⊢ iprop(Snd m ρ c 0 ∗ slotPts c c (sendAt m ρ c)) := by
  unfold Snd
  rw [filled_all, send_slots, around_fwd c, todo_zero, done_zero, bigSep_empty]
  have h : iprop((bigSep Finset.univ fun d => iprop(dutyTok ER (sendCell c d) 0 0 ∗ dutyTok ER (recvCell (fwd c d) c) 0 0))
        ∗ (bigSep Finset.univ fun d => slotPts c (fwd c d) (sendAt m ρ c)) ∗ bigSep Finset.univ fun e => barPay (F := F) c e)
      ⊢ bigSep Finset.univ fun d => sndIn m ρ c d := by
    rw [← bigSep_sep', ← bigSep_sep']
    refine bigSep_mono fun d _ => (?_ : iprop((dutyTok ER (sendCell c d) 0 0 ∗ dutyTok ER (recvCell (fwd c d) c) 0 0)
      ∗ slotPts c (fwd c d) (sendAt m ρ c) ∗ barPay (F := F) c d) ⊢ sndIn m ρ c d)
    unfold sndIn barPay
    iintro ⟨⟨H1, H2⟩, H3, H4⟩
    isplitl [H1]; · iexact H1
    isplitl [H2]; · iexact H2
    isplitl [H3] <;> iassumption
  unfold toks
  iintro ⟨⟨Hc, Hs⟩, HO, Ht, Hb⟩
  isplitr [Hc]
  · isplitl [HO]; · iexact HO
    isplitl
    · iapply h
      isplitl [Ht]; · iexact Ht
      isplitl [Hs]; · iexact Hs
      iexact Hb
    · iempintro
  · iexact Hc

/-- Slots 6 and 7, the wait at the barrier, and the first transfer. -/
theorem part5 (c : Dev nD) (f : SendBuf F) (v2 : BitVec 32) :
    ∃ a b, Step m ρ K c iprop(sendPts c (filled 6 (yAt m ρ c) f) ∗ Sig (F := F) c 7 ∗ barIn (F := F) c ∗ toks (F := F) c)
      (k0_part5 (F := F) xM h0 wM h1 oM h2 sM h3 cc0_scratch1 cc0_scratch2 c v2 (SemArray.scalar (sig.barrier 0 rfl)) (yAt m ρ c) (k0_pay9 (k0_pay1 (xstg m ρ c)) (wstg m ρ c)))
      ⟨a, b⟩ iprop(Snd m ρ c 1 ∗ slotPts c c (sendAt m ρ c) ∗ semVal (barCell c) 0) := by
  rw [k0_part5_eq_skeleton]; unfold k0_part5_skel
  apply Exists.intro; apply Exists.intro
  refine fill_then m ρ K (j := 6) rfl rfl rfl slices_S128x1024_o0_768_S128x128 rfl ?_
  refine fill_then m ρ K (j := 7) rfl rfl rfl slices_S128x1024_o0_896_S128x128 rfl ?_
  refine Step.pre m ρ K (Y := iprop((owesW c (owedSnd c 0) ∗ cred (tallyAt (barCell c) () 7) ∗ atPos ER (barCell c) 0 ∅ 0)
    ∗ sendPts c (filled 8 (yAt m ρ c) f) ∗ toks (F := F) c)) ?_ ?_
  · unfold barIn
    iintro ⟨Hs, Hg, ⟨Hc, Ha⟩, Ht⟩
    isplitr [Hs Ht]
    · isplitl [Hg]; · iapply (sig_done c); iexact Hg
      isplitl [Hc]; · iexact Hc
      iexact Ha
    · isplitl [Hs]; · iexact Hs
      iexact Ht
  refine Step.bind m ρ K (Step.frame m ρ K _ (step_barrier m ρ K c)) ?_
  refine Step.pre m ρ K (Y := iprop(Snd m ρ c 0 ∗ slotPts c c (sendAt m ρ c) ∗ semVal (barCell c) 0)) ?_ ?_
  · iintro ⟨⟨HO, Hz, Hb⟩, Hs, Ht⟩
    ihave H := (start_send m ρ c f) $$ [HO Hb Hs Ht]
    · isplitl [Hs]; · iexact Hs
      isplitl [HO]; · iexact HO
      isplitl [Ht]; · iexact Ht
      iexact Hb
    icases H with ⟨H1, H2⟩
    isplitl [H1]; · iexact H1
    isplitl [H2]; · iexact H2
    iexact Hz
  refine Step.bind m ρ K (Step.frame m ρ K _ (hop_send m ρ K 0 (dev8_eq c) rfl rfl rfl)) ?_
  exact Step.pure m ρ K

/-! ## The whole body -/

/-- The counters of the arrivals and their credits. -/
def rcvIn (c : Dev nD) : sProp 𝕄 :=
  bigSep Finset.univ fun d => iprop(atPos ER (recvCell c (bwd c d)) 0 ∅ 0 ∗ cred (tallyAt (recvCell c (bwd c d)) () N))
/-- The counters of the sends. -/
def sntAt (c : Dev nD) : sProp 𝕄 := bigSep Finset.univ fun d => atPos ER (sendCell c d) 0 ∅ 0

/-- Before the body. -/
def bodyIn (c : Dev nD) (f : SendBuf F) : sProp 𝕄 :=
  iprop(Sig (F := F) c 0 ∗ xPts m ρ c ∗ wPts m ρ c ∗ sendPts c f ∗ barIn (F := F) c ∗ toks (F := F) c
    ∗ (∃ g : OutBuf F, bandPts c c g) ∗ rcvIn (F := F) c ∗ sntAt (F := F) c)
/-- After the body. -/
def bodyOut (c : Dev nD) : sProp 𝕄 :=
  iprop(Snt m ρ c 7 ∗ rcvOut m ρ c ∗ Mine m ρ c 8 ∗ semVal (barCell c) 0 ∗ xPts m ρ c ∗ wPts m ρ c)

/-- Before any test the band may hold anything. -/
theorem mine_start (c : Dev nD) : iprop(slotPts c c (sendAt m ρ c) ∗ ∃ g : OutBuf F, bandPts c c g) ⊢ Mine m ρ c 0 := by
  unfold Mine
  iintro ⟨Hs, ⟨%g, Hg⟩⟩
  isplitl [Hs]; · iexact Hs
  iexists g
  isplitr
  · ipureintro; exact fun h => absurd h (Nat.not_lt_zero _)
  · iexact Hg
/-- With all transfers started, the arrivals are awaited, and the credits of the sends are at hand. -/
theorem snd_rcv (c : Dev nD) : iprop(Snd m ρ c 7 ∗ rcvIn (F := F) c ∗ sntAt (F := F) c) ⊢ iprop(Rcv m ρ c 0 ∗ sntIn (F := F) c) := by
  unfold Snd Rcv rcvIn sntAt sntIn
  rw [owedSnd_all, todo_all, todo_zero, done_zero, done_all, bigSep_empty, bigSep_empty, bigSep_sep', bigSep_sep']
  iintro ⟨⟨HO, -, Hc⟩, Hr, Ha⟩
  isplitr [Hc Ha]
  · isplitl [HO]; · iexact HO
    isplitl [Hr]; · iexact Hr
    iempintro
  · isplitl [Ha]; · iexact Ha
    iexact Hc

theorem step_body (c : Dev nD) (f : SendBuf F) :
    Step m ρ K c (bodyIn m ρ c f) (cc0_body (F := F) xM h0 wM h1 oM h2 sM h3 cc0_scratch1 cc0_scratch2) ⟨⟩ (bodyOut m ρ c) := by
  obtain ⟨a1, b1, e1, p1⟩ := part1 m ρ K h0 h1 h2 h3 c
  obtain ⟨⟨a2, b2, e2⟩, p2⟩ := part2 m ρ K h0 h1 h2 h3 c (word c) a1 b1 e1
  have p3 := part3 m ρ K h0 h1 h2 h3 c (word c) a2 e2 b2
  have p4 := part4 m ρ K h0 h1 h2 h3 c f
  obtain ⟨a5, b5, p5⟩ := part5 m ρ K h0 h1 h2 h3 c f (word c)
  have p6 := part6 m ρ K h0 h1 h2 h3 c (word c) a5 b5
  obtain ⟨a7, p7⟩ := part7 m ρ K h0 h1 h2 h3 c (word c)
  obtain ⟨⟨a8, b8⟩, p8⟩ := part8 m ρ K h0 h1 h2 h3 c (word c) a7
  have p9 := part9 m ρ K h0 h1 h2 h3 c a8 b8
  obtain ⟨a10, b10, e10, p10⟩ := part10 m ρ K h0 h1 h2 h3 c
  obtain ⟨a11, p11⟩ := part11 m ρ K h0 h1 h2 h3 c (word c) a10 b10 e10
  have p12 := part12 m ρ K h0 h1 h2 h3 c (word c) a11
  obtain ⟨a13, p13⟩ := part13 m ρ K h0 h1 h2 h3 c (word c)
  have p14 := part14 m ρ K h0 h1 h2 h3 c a13
  rw [cc0_body_eq_skeleton]; unfold cc0_body_skel bodyIn
  refine Step.bind m ρ K (Step.frame m ρ K _ p1) ?_
  refine Step.bind m ρ K (Step.frame m ρ K _ p2) ?_
  refine Step.pre m ρ K (sep_assoc (PROP := sProp 𝕄)).2 ?_
  refine Step.bind m ρ K (Step.frame m ρ K _ p3) ?_
  refine Step.pre m ρ K (Y := iprop((wPts m ρ c ∗ sendPts c (filled 0 (yAt m ρ c) f)) ∗ xPts m ρ c ∗ Sig (F := F) c 7 ∗ barIn (F := F) c ∗ toks (F := F) c
    ∗ (∃ g : OutBuf F, bandPts c c g) ∗ rcvIn (F := F) c ∗ sntAt (F := F) c)) ?_ ?_
  · rw [filled_zero]
    iintro ⟨⟨Hx, Hg⟩, Hw, Hs, Hr⟩
    isplitl [Hw Hs]
    · isplitl [Hw] <;> iassumption
    isplitl [Hx]; · iexact Hx
    isplitl [Hg]; · iexact Hg
    iexact Hr
  refine Step.bind m ρ K (Step.frame m ρ K _ p4) ?_
  refine Step.pre m ρ K (Y := iprop((sendPts c (filled 6 (yAt m ρ c) f) ∗ Sig (F := F) c 7 ∗ barIn (F := F) c ∗ toks (F := F) c)
    ∗ (∃ g : OutBuf F, bandPts c c g) ∗ rcvIn (F := F) c ∗ sntAt (F := F) c ∗ xPts m ρ c ∗ wPts m ρ c)) ?_ ?_
  · iintro ⟨⟨Hs, Hw⟩, Hx, Hg, Hb, Ht, Ho, Hr, Ha⟩
    isplitl [Hs Hg Hb Ht]
    · isplitl [Hs]; · iexact Hs
      isplitl [Hg]; · iexact Hg
      isplitl [Hb]; · iexact Hb
      iexact Ht
    isplitl [Ho]; · iexact Ho
    isplitl [Hr]; · iexact Hr
    isplitl [Ha]; · iexact Ha
    isplitl [Hx]; · iexact Hx
    iexact Hw
  refine Step.bind m ρ K (Step.frame m ρ K _ p5) ?_
  refine Step.pre m ρ K (Y := iprop(Snd m ρ c 1 ∗ Mine m ρ c 0 ∗ rcvIn (F := F) c ∗ sntAt (F := F) c ∗ semVal (barCell c) 0 ∗ xPts m ρ c ∗ wPts m ρ c)) ?_ ?_
  · iintro ⟨⟨HS, Hs, Hz⟩, Ho, Hr, Ha, Hxw⟩
    isplitl [HS]; · iexact HS
    isplitl [Hs Ho]
    · iapply (mine_start m ρ c)
      isplitl [Hs]; · iexact Hs
      iexact Ho
    isplitl [Hr]; · iexact Hr
    isplitl [Ha]; · iexact Ha
    isplitl [Hz]; · iexact Hz
    iexact Hxw
  refine Step.bind m ρ K (Step.frame m ρ K _ p6) ?_
  refine Step.bind m ρ K (Step.frame m ρ K _ p7) ?_
  refine Step.bind m ρ K (Step.frame m ρ K _ p8) ?_
  refine Step.pre m ρ K (sep_assoc (PROP := sProp 𝕄)).2 ?_
  refine Step.bind m ρ K (Step.frame m ρ K _ p9) ?_
  refine Step.pre m ρ K (Y := iprop((Mine m ρ c 5 ∗ Rcv m ρ c 0) ∗ sntIn (F := F) c ∗ semVal (barCell c) 0 ∗ xPts m ρ c ∗ wPts m ρ c)) ?_ ?_
  · iintro ⟨⟨HM, HS⟩, Hr, Ha, Hrest⟩
    ihave H := (snd_rcv m ρ c) $$ [HS Hr Ha]
    · isplitl [HS]; · iexact HS
      isplitl [Hr]; · iexact Hr
      iexact Ha
    icases H with ⟨H1, H2⟩
    isplitl [HM H1]
    · isplitl [HM]; · iexact HM
      iexact H1
    isplitl [H2]; · iexact H2
    iexact Hrest
  refine Step.bind m ρ K (Step.frame m ρ K _ p10) ?_
  refine Step.pre m ρ K (Y := iprop(Rcv m ρ c 1 ∗ sntIn (F := F) c ∗ Mine m ρ c 8 ∗ semVal (barCell c) 0 ∗ xPts m ρ c ∗ wPts m ρ c)) ?_ ?_
  · iintro ⟨⟨HR, HM⟩, Hs, Hrest⟩
    isplitl [HR]; · iexact HR
    isplitl [Hs]; · iexact Hs
    isplitl [HM]; · iexact HM
    iexact Hrest
  refine Step.bind m ρ K (Step.frame m ρ K _ p11) ?_
  refine Step.bind m ρ K (Step.frame m ρ K _ p12) ?_
  refine Step.bind m ρ K (Step.frame m ρ K _ p13) ?_
  refine Step.pre m ρ K (sep_assoc (PROP := sProp 𝕄)).2 ?_
  refine Step.bind m ρ K (Step.frame m ρ K _ p14) ?_
  refine Step.pre m ρ K (sep_assoc (PROP := sProp 𝕄)).1 ?_
  refine Step.bind m ρ K (Step.frame m ρ K _ (hop_sent m ρ K 4 rfl rfl)) ?_
  refine Step.bind m ρ K (Step.frame m ρ K _ (hop_sent m ρ K 5 rfl rfl)) ?_
  refine Step.bind m ρ K (Step.frame m ρ K _ (hop_sent m ρ K 6 rfl rfl)) ?_
  exact Step.pure m ρ K

end Cert.KernelIdeal.Own
-- ==== Proof.Point.lean ====
/-
The body as the pipeline calls it: what a device holds when the call starts and when it ends, and that the body leads
from the one to the other.
-/
module

public import proofs.«01_k».proof.Proof.Body
public import proofs.«01_k».proof.Proof.Gen.KernelIdeal.Launch
public import proofs.«01_k».proof.Proof.Gen.KernelIdeal.Points

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 7 ⊕ Dev nD) → ℕ)

/-! ## What a device starts from -/

/-- The tokens of all duties device `c` is to pay: its seven signals and its seven transfers. -/
def pays (c : Dev nD) : sProp 𝕄 := iprop((bigSep Finset.univ fun d => dutyTok ER (barCell (fwd c d)) 0 (back d)) ∗ toks (F := F) c)
/-- The positions of device `c`'s semaphores, all in their round, nothing taken. -/
def poses (c : Dev nD) : sProp 𝕄 :=
  bigSep Finset.univ fun k : Option (Fin 7 ⊕ Dev nD) => atPos ER (kcell (c, k)) 0 ∅ 0
/-- What others owe device `c`: seven signals and seven transfers. -/
def creds (c : Dev nD) : sProp 𝕄 :=
  iprop(cred (tallyAt (barCell c) () 7) ∗ bigSep Finset.univ fun d => cred (tallyAt (recvCell c (bwd c d)) () N))
/-- What device `c` starts from. -/
def start (c : Dev nD) : sProp 𝕄 := iprop((∃ K, records m ρ K ∗ poses (F := F) c ∗ pays (F := F) c) ∗ creds (F := F) c)

omit [FloatOps F] in
/-- All semaphores of a device, by kind. -/
theorem by_kind (Φ : Option (Fin 7 ⊕ Dev nD) → sProp 𝕄) :
    bigSep Finset.univ Φ = iprop(Φ none ∗ (bigSep Finset.univ fun d => Φ (some (.inl d))) ∗ bigSep Finset.univ fun s => Φ (some (.inr s))) := by
  have h : (Finset.univ : Finset (Option (Fin 7 ⊕ Dev nD))) = insert none (Finset.univ.map Function.Embedding.some) := by decide
  rw [h, bigSep_insert (by decide), bigSep_map, bigSep_univ_sum]; rfl

/-- What the body needs is what the device starts from, its buffers, and what it owes; left over is the counter of the
    arrival from itself, which nothing uses. -/
theorem body_start (c : Dev nD) (f : SendBuf F) (g : OutBuf F) :
    iprop((poses (F := F) c ∗ pays (F := F) c ∗ creds (F := F) c) ∗ owesW c (O₀ c) ∗ xPts m ρ c ∗ wPts m ρ c
        ∗ (((c : Thread nD τ).loc cc0_stg2_0) ↦{fullShare} g) ∗ sendPts c f)
      ⊢ iprop(bodyIn m ρ c f ∗ atPos ER (recvCell c c) 0 ∅ 0) := by
  have hs : (bigSep Finset.univ fun d => bandPts c (fwd c d) g) ⊢ (bigSep Finset.univ fun d => iprop(∃ f : OutBuf F, bandPts c (fwd c d) f) : sProp 𝕄) :=
    bigSep_mono fun d _ => (exists_intro (Φ := fun f : OutBuf F => (bandPts c (fwd c d) f : sProp 𝕄)) g)
  unfold poses pays creds bodyIn Sig barIn rcvIn sntAt O₀
  rw [by_kind, around_bwd c (fun s => atPos ER (kcell (c, some (.inr s))) 0 ∅ 0), out_bands, around_fwd c (fun s => bandPts c s g), todo_zero, bigSep_sep', bigSep_sep']
  iintro ⟨⟨⟨Hb, Hsnd, Hown, Hrcv⟩, ⟨Hsig, Ht⟩, Hcb, Hcr⟩, HO, Hx, Hw, ⟨Hg, Hgs⟩, Hf⟩
  isplitr [Hown]
  · isplitl [HO Hsig Hgs]
    · isplitl [HO]; · iexact HO
      isplitl [Hsig]; · iexact Hsig
      iapply hs
      iexact Hgs
    isplitl [Hx]; · iexact Hx
    isplitl [Hw]; · iexact Hw
    isplitl [Hf]; · iexact Hf
    isplitl [Hcb Hb]
    · isplitl [Hcb]; · iexact Hcb
      iexact Hb
    isplitl [Ht]; · iexact Ht
    isplitl [Hg]; · iexists g; iexact Hg
    isplitl [Hrcv Hcr]
    · isplitl [Hrcv]; · iexact Hrcv
      iexact Hcr
    iexact Hsnd
  · iexact Hown

/-- The device's own band is as it is to be. -/
theorem mine_end (c : Dev nD) : Mine m ρ c 8 ⊢ iprop(slotPts c c (sendAt m ρ c) ∗ bandPts c c (outAt m ρ c)) := by
  unfold Mine
  iintro ⟨Hs, ⟨%f, %hf, Hb⟩⟩
  isplitl [Hs]; · iexact Hs
  rw [← band_congr c c f (outAt m ρ c) (hf c.isLt)]
  iexact Hb

/-- After the body: the send buffer, and all counters at zero. -/
def finish (c : Dev nD) : sProp 𝕄 :=
  iprop(sendPts c (sendAt m ρ c) ∗ bigSep Finset.univ fun k : Option (Fin 7 ⊕ Dev nD) => semVal (kcell (c, k)) 0)

/-- What the body leaves makes up the whole output block, the whole send buffer and all counters. -/
theorem body_end (c : Dev nD) :
    iprop(bodyOut m ρ c ∗ semVal (recvCell c c) 0)
      ⊢ iprop(owesW c 0 ∗ xPts m ρ c ∗ wPts m ρ c ∗ (((c : Thread nD τ).loc cc0_stg2_0) ↦{fullShare} (outAt m ρ c)) ∗ finish m ρ c) := by
  unfold bodyOut finish Snt rcvOut
  rw [by_kind, around_bwd c (fun s => semVal (kcell (c, some (.inr s))) 0), out_bands, around_bwd c (fun s => bandPts c s (outAt m ρ c)),
    send_slots, around_fwd c (fun s => slotPts c s (sendAt m ρ c)), todo_all, bigSep_empty, done_all, bigSep_sep', bigSep_sep']
  iintro ⟨⟨⟨HO, -, Hsl, Hss⟩, ⟨Hbs, Hrs⟩, HM, Hz, Hx, Hw⟩, Hown⟩
  ihave HM := (mine_end m ρ c) $$ HM
  icases HM with ⟨Hs, Hb⟩
  isplitl [HO]; · iexact HO
  isplitl [Hx]; · iexact Hx
  isplitl [Hw]; · iexact Hw
  isplitl [Hb Hbs]
  · isplitl [Hb]; · iexact Hb
    iexact Hbs
  isplitl [Hs Hsl]
  · isplitl [Hs]; · iexact Hs
    iexact Hsl
  isplitl [Hz]; · iexact Hz
  isplitl [Hss]; · iexact Hss
  isplitl [Hown]; · iexact Hown
  iexact Hrs

/-! ## The pipeline's data -/

/-- At launch: the arrays as they are in memory. The one point leaves the two inputs as staged and the output as
    computed; before it the device has what it starts from and its send buffer, after it what it ends with. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => iprop(start m ρ c ∗ ∃ f, sendPts c f)
    | ⟨_ + 1, _⟩ => finish m ρ c
  q _ := fullShare
  owed t := match t with
    | ⟨0, _⟩ => O₀ c
    | ⟨_ + 1, _⟩ => 0

/-- A staging buffer of device `c`, holding `X`. -/
abbrev stg (c : Dev nD) (b : Ref sig .tc) (X : b.ty.Contents (Elt F)) : sProp 𝕄 :=
  ((c : Thread nD τ).loc b) ↦{fullShare} X

/-- What the pipeline gives the body. -/
def bodyPre (c : Dev nD) : sProp 𝕄 :=
  iprop((start m ρ c ∗ ∃ f, sendPts c f) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- What it takes back. -/
def bodyPost (c : Dev nD) : sProp 𝕄 :=
  iprop(finish m ρ c ∗ (dats m ρ 0 c).owesAt () t0_0.succ
    ∗ stg c cc0_stg0_0 (xstg m ρ c) ∗ stg c cc0_stg1_0 (wstg m ρ c) ∗ stg c cc0_stg2_0 (outAt m ρ c))

/-- The two inputs are staged when the body runs. -/
theorem before_x (c : Dev nD) (d) : (dats m ρ 0 c).before (0 : Fin 3) t0_0 d = xstg m ρ c := by
  unfold Dat.before; rw [if_pos (fetch0_0 t0_0)]; rfl
theorem before_w (c : Dev nD) (d) : (dats m ρ 0 c).before (1 : Fin 3) t0_0 d = wstg m ρ c := by
  unfold Dat.before; rw [if_pos (fetch0_1 t0_0)]; rfl

/-- Any wait record will do where nothing is asked of it. -/
theorem owes_start (c : Dev nD) : (dats m ρ 0 c).owesAt () t0_0.castSucc ⊢ owesW (F := F) c (O₀ c) := by
  unfold Dat.owesAt Pipeline.owesWithin owesW
  iintro ⟨%W, -, H⟩
  iexists W
  iexact H
theorem owes_end (c : Dev nD) : owesW (F := F) c 0 ⊢ (dats m ρ 0 c).owesAt () t0_0.succ := by
  unfold Dat.owesAt Pipeline.owesWithin owesW
  iintro ⟨%W, H⟩
  iexists W
  isplitr; · ipureintro; exact fun _ _ => Or.inl trivial
  iexact H

/-- The body leads from what the pipeline gives to what it takes back. -/
theorem body_at (c : Dev nD) :
    bodyPre m ρ c ⊢ runs c (cc0_body (F := F) xM (Memref.isWhole_whole _) wM (Memref.isWhole_whole _) oM (Memref.isWhole_whole _) sM (Memref.isWhole_whole _)
      cc0_scratch1 cc0_scratch2) (fun _ => bodyPost m ρ c) := by
  unfold bodyPre start
  iintro ⟨⟨⟨⟨%K, #HR, Hp, Ht⟩, Hc⟩, ⟨%f, Hf⟩⟩, HO, ⟨%d0, Hx⟩, ⟨%d1, Hw⟩, ⟨%d2, Ho⟩⟩
  rw [before_x, before_w]
  ihave H := (body_start m ρ c f _) $$ [Hp Ht Hc HO Hx Hw Ho Hf]
  · isplitl [Hp Ht Hc]
    · isplitl [Hp]; · iexact Hp
      isplitl [Ht]; · iexact Ht
      iexact Hc
    isplitl [HO]; · iapply (owes_start m ρ c); iexact HO
    isplitl [Hx]; · unfold xPts; iexact Hx
    isplitl [Hw]; · unfold wPts; iexact Hw
    isplitl [Ho]; · iexact Ho
    iexact Hf
  icases H with ⟨HB, Hown⟩
  imod (Rounds.cell_close ER (rd m ρ) (Set.mem_univ (K (c, some (.inr c)))) (fun h => h) (R := 0) (fun r _ => duties_own m ρ c r)) $$ [Hown] with Hz
  · isplitr; · iapply (inv_at m ρ K (c, some (.inr c))); iexact HR
    iexact Hown
  iapply (step_body m ρ K (Memref.isWhole_whole _) (Memref.isWhole_whole _) (Memref.isWhole_whole _) (Memref.isWhole_whole _) c f fun _ => bodyPost m ρ c)
  isplitr; · iexact HR
  isplitl [HB]; · iexact HB
  iintro HB
  ihave H := (body_end m ρ c) $$ [HB Hz]
  · isplitl [HB]; · iexact HB
    iexact Hz
  icases H with ⟨HO, Hx, Hw, Ho, Hf⟩
  unfold bodyPost xPts wPts
  isplitl [Hf]; · iexact Hf
  isplitl [HO]; · iapply (owes_end m ρ c); iexact HO
  isplitl [Hx]; · iexact Hx
  isplitl [Hw]; · iexact Hw
  iexact Ho

/-- The body obligation of the one point. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact body_at m ρ c

end Cert.KernelIdeal.Own
-- ==== Proof.Launch.lean ====
/-
The launch: how the initial resources are dealt to the devices.
-/
module

public import proofs.«01_k».proof.Proof.Point

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## Names are distinct -/

/-- The kernel's own semaphores are scoped, distinct and none of the pipeline's. -/
theorem ownSemFacts : Pipeline.OwnSemFacts cfg0.spec osem := by decide

/-- Every semaphore of the protocol has one name. -/
theorem csem_inj : Function.Injective csem := by decide
theorem kcell_inj : Function.Injective (kcell : Dev nD × Option (Fin 7 ⊕ Dev nD) → GSem nD τ sig) := by
  rintro ⟨c, k⟩ ⟨c', k'⟩ h
  have h1 : c = c' := congrArg (fun g : GSem nD τ sig => g.1.1) h
  have h2 : k = k' := csem_inj (congrArg Prod.snd h)
  rw [h1, h2]
/-- The semaphores of the protocol. -/
def ringCells : Finset (GSem nD τ sig) := Finset.univ.map ⟨kcell, kcell_inj⟩

/-- The duties by who pays them: device `c`'s signal, its own send, its transfer's arrival, over hop `d`. -/
abbrev tokOf : Dev nD × (Fin 7 ⊕ Fin 7 ⊕ Fin 7) → GSem nD τ sig × ℕ × Fin 7
  | (c, .inl d) => (barCell (fwd c d), 0, back d)
  | (c, .inr (.inl d)) => (sendCell c d, 0, 0)
  | (c, .inr (.inr d)) => (recvCell (fwd c d) c, 0, 0)

theorem send_ne_recv (d : Fin 7) (s : Dev nD) : SemLoc.dma (sendS d) ≠ (SemLoc.dma (recvS s) : SemLoc sig) := by revert d s; decide
theorem back_inj (d e : Fin 7) (h : back d = back e) : d = e := by rw [← back_back d, h, back_back]

/-- Every duty has one payer. -/
theorem tokOf_inj : Function.Injective tokOf := by
  have hq {x y : GSem nD τ sig × ℕ × Fin 7} (h : x = y) : x.1.2 = y.1.2 := congrArg (fun x => x.1.2) h
  have hc {x y : GSem nD τ sig × ℕ × Fin 7} (h : x = y) : x.1.1.1 = y.1.1.1 := congrArg (fun x => x.1.1.1) h
  have hd {x y : GSem nD τ sig × ℕ × Fin 7} (h : x = y) : x.2.2 = y.2.2 := congrArg (fun x => x.2.2) h
  rintro ⟨c, d | d | d⟩ ⟨c', e | e | e⟩ h
  · have h1 : d = e := back_inj _ _ (hd h)
    have h2 : fwd c d = fwd c' e := hc h
    have h3 : c = c' := by rw [← fwd_back c d, h2, h1, fwd_back]
    rw [h1, h3]
  · exact absurd (hq h) (by intro h'; cases h')
  · exact absurd (hq h) (by intro h'; cases h')
  · exact absurd (hq h) (by intro h'; cases h')
  · have h1 : c = c' := hc h
    have h2 : d = e := Sum.inl_injective (Option.some_injective _ (csem_inj (a₁ := some (.inl d)) (a₂ := some (.inl e)) (hq h)))
    rw [h1, h2]
  · exact absurd (hq h) (send_ne_recv d c')
  · exact absurd (hq h) (by intro h'; cases h')
  · exact absurd (hq h).symm (send_ne_recv e c)
  · have h1 : c = c' := Sum.inr_injective (Option.some_injective _ (csem_inj (a₁ := some (.inr c)) (a₂ := some (.inr c')) (hq h)))
    have h2 : fwd c d = fwd c' e := hc h
    rw [h1] at h2
    rw [h1, fwd_inj c' _ _ h2]
/-- The duties of the protocol. -/
def ringToks : Finset (GSem nD τ sig × ℕ × Fin 7) := Finset.univ.map ⟨tokOf, tokOf_inj⟩

/-- The launch element: the pipeline's, and the protocol's. -/
def u₀ : UU := (initOf (Pipeline.cells cfgs cellOf_inj) (Pipeline.launchToks cfgs cellOf_inj), initOf ringCells ringToks)

/-! ## What each device is dealt -/

/-- Device `c`'s part of the launch element. -/
def G (c : Dev nD) : sProp 𝕄 :=
  iprop((bigSep Finset.univ fun k : Option (Fin 7 ⊕ Dev nD) => roundState ER (rd m ρ) (kcell (c, k)) 0)
    ∗ poses (F := F) c ∗ (bigSep Finset.univ fun k : Option (Fin 7 ⊕ Dev nD) => reached ER (kcell (c, k)) 0) ∗ pays (F := F) c)
/-- What it has once all invariants exist. -/
def G' (c : Dev nD) : sProp 𝕄 :=
  iprop(∃ K : Dev nD × Option (Fin 7 ⊕ Dev nD) → ℕ,
    (bigSep Finset.univ fun ck : Dev nD × Option (Fin 7 ⊕ Dev nD) => iprop(cellInv ER (rd m ρ) (K ck) (kcell ck) ∗ reached ER (kcell ck) 0))
      ∗ poses (F := F) c ∗ pays (F := F) c)

/-- The protocol's semaphores, device by device. -/
theorem cells_by_device (Φ : GSem nD τ sig → sProp 𝕄) :
    bigSep ringCells Φ = bigSep Finset.univ fun c : Dev nD => bigSep Finset.univ fun k => Φ (kcell (c, k)) := by
  unfold ringCells; rw [bigSep_map, bigSep_univ_prod]; rfl
/-- The duties, device by device. -/
theorem toks_by_device :
    bigSep ringToks (fun x => (dutyTok ER x.1 x.2.1 x.2.2 : sProp 𝕄)) = bigSep Finset.univ fun c : Dev nD => pays c := by
  unfold ringToks; rw [bigSep_map, bigSep_univ_prod]
  refine bigSep_congr fun c _ => ?_
  unfold pays toks
  rw [bigSep_univ_sum, bigSep_univ_sum, bigSep_sep']; rfl

/-- The launch element is what the devices are dealt. -/
theorem fund : BI.own (ER (initOf ringCells ringToks)) ⊢ (|==> bigSep Finset.univ (G m ρ) : sProp 𝕄) := by
  iintro HX
  imod (Rounds.fund ER (rd m ρ) ringCells ringToks) $$ HX with ⟨Hst, Hr, Hat, Htok⟩
  imodintro
  ihave Hst := (Entails.of_eq (cells_by_device fun g => roundState ER (rd m ρ) g 0)) $$ Hst
  ihave Hat := (Entails.of_eq (cells_by_device fun g => atPos ER g 0 ∅ 0)) $$ Hat
  ihave Hr := (Entails.of_eq (cells_by_device fun g => reached ER g 0)) $$ Hr
  ihave Htok := (Entails.of_eq toks_by_device) $$ Htok
  unfold G poses; simp only [bigSep_sep']
  isplitl [Hst]; · iexact Hst
  isplitl [Hat]; · iexact Hat
  isplitl [Hr]; · iexact Hr
  iexact Htok

/-- The barrier's semaphore is the only one the runtime keeps. -/
theorem kept_eq (c : Dev nD) : (unscopedSems0 c : sProp 𝕄) = semVal (barCell c) 0 := by
  unfold unscopedSems0; rw [bigSep_eq_bigSepL_of_eq [SemLoc.reg barS] (by decide) (by decide)]; rfl
/-- All counters of device `c`. -/
theorem sems_eq (c : Dev nD) :
    (bigSep Finset.univ fun k : Option (Fin 7 ⊕ Dev nD) => (semVal (kcell (c, k)) 0 : sProp 𝕄))
      = iprop(unscopedSems0 c ∗ Pipeline.ownSems0 (Ix := Unit) (Name := ℕ) (U := UU) (Lvl := ℕ) (Val := Elt F) (τ := τ) osem c) := by
  rw [kept_eq, by_kind]; unfold Pipeline.ownSems0; rw [bigSep_univ_sum]; rfl

/-- One device's invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => reached ER (kcell (c, k)) 0) ∗ poses (F := F) c ∗ pays (F := F) c) := by
  have h : iprop((bigSep Finset.univ fun k : Option (Fin 7 ⊕ Dev nD) => semVal (kcell (c, k)) 0) ∗ bigSep Finset.univ fun k => roundState ER (rd m ρ) (kcell (c, k)) 0)
      ⊢ (|={Set.univ}=> bigSep Finset.univ fun k => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  unfold G
  iintro ⟨Hos, Hus, Hst, Hat, Hr, Htok⟩
  ihave Hv := (Entails.of_eq (sems_eq (F := F) c).symm) $$ [Hos Hus]
  · isplitl [Hus]; · iexact Hus
    iexact Hos
  imod (h) $$ [Hv Hst] with Hinv
  · isplitl [Hv]; · iexact Hv
    iexact Hst
  imodintro
  isplitl [Hinv]; · iexact Hinv
  isplitl [Hr]; · iexact Hr
  isplitl [Hat]; · iexact Hat
  iexact Htok

/-- Every device gets all invariants. -/
theorem share_out :
    (bigSep Finset.univ fun c : Dev nD => iprop((bigSep Finset.univ fun k => iprop(∃ κ : ℕ, cellInv ER (rd m ρ) κ (kcell (c, k))))
          ∗ (bigSep Finset.univ fun k => reached ER (kcell (c, k)) 0) ∗ poses (F := F) c ∗ pays (F := F) c) : sProp 𝕄)
      ⊢ bigSep Finset.univ (G' m ρ) := by
  have hG (K : Dev nD × Option (Fin 7 ⊕ Dev nD) → ℕ) (c : Dev nD) :
      iprop((bigSep Finset.univ fun ck : Dev nD × Option (Fin 7 ⊕ Dev nD) => iprop(cellInv ER (rd m ρ) (K ck) (kcell ck) ∗ reached ER (kcell ck) 0))
        ∗ poses (F := F) c ∗ pays (F := F) c) ⊢ G' m ρ c := by
    unfold G'
    iintro H
    iexists K
    iexact H
  rw [bigSep_sep', bigSep_sep', ← bigSep_univ_prod (fun ck : Dev nD × Option (Fin 7 ⊕ Dev nD) => iprop(∃ κ : ℕ, cellInv ER (rd m ρ) κ (kcell ck))),
    ← bigSep_univ_prod (fun ck : Dev nD × Option (Fin 7 ⊕ Dev nD) => (reached ER (kcell ck) 0 : sProp 𝕄))]
  iintro ⟨HI, #HR, Hrest⟩
  ihave HK := (BI.bigSep_exists_pi Finset.univ (fun (ck : Dev nD × Option (Fin 7 ⊕ Dev nD)) (κ : ℕ) => (cellInv ER (rd m ρ) κ (kcell ck) : sProp 𝕄))) $$ HI
  icases HK with ⟨%K, #HI⟩
  iapply (bigSep_with_persistent (fun c _ => hG K c))
  isplitr
  · rw [bigSep_sep']
    isplitr; · iexact HI
    iexact HR
  · iexact Hrest

/-- From the counters and the launch element of all devices, what every device has. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (share_out m ρ))

/-! ## What is owed at launch is what others wait for -/

theorem recv_ne_bar (s : Dev nD) : SemLoc.dma (recvS s) ≠ (SemLoc.reg barS : SemLoc sig) := by intro h; cases h
theorem bar_eq_iff {a b : Dev nD} : barCell a = barCell b ↔ a = b :=
  ⟨fun h => congrArg (fun g : GSem nD τ sig => g.1.1) h, fun h => h ▸ rfl⟩
theorem recv_eq_iff {a b s r : Dev nD} : recvCell a s = recvCell b r ↔ a = b ∧ s = r := by
  constructor
  · intro h
    have h2 := kcell_inj (a₁ := (a, some (.inr s))) (a₂ := (b, some (.inr r))) h
    exact ⟨congrArg Prod.fst h2, Sum.inr_injective (Option.some_injective _ (congrArg Prod.snd h2))⟩
  · rintro ⟨rfl, rfl⟩; rfl

/-- Over all hops, device `d`'s signals to device `c`. -/
theorem owed_bar (d c : Dev nD) : O₀ d (barCell c) () = ∑ e : Fin 7, if c = fwd d e then 1 else 0 := by
  unfold O₀ owedSnd owedSig
  rw [todo_zero, Pi.add_apply, Finsupp.add_apply, Finset.sum_apply, Finset.sum_apply, Finsupp.finset_sum_apply, Finsupp.finset_sum_apply,
    Finset.sum_eq_zero fun e _ => by rw [tallyAt_ne_cell (fun h => recv_ne_bar d (congrArg Prod.snd h).symm), Finsupp.zero_apply], zero_add]
  refine Finset.sum_congr rfl fun e _ => ?_
  rw [tallyAt_apply]
  exact if_congr ⟨fun h => bar_eq_iff.mp h.1, fun h => ⟨bar_eq_iff.mpr h, rfl⟩⟩ rfl rfl
/-- Over all hops, device `d`'s transfers onto device `c`'s semaphore for `s`. -/
theorem owed_recv (d c s : Dev nD) : O₀ d (recvCell c s) () = (∑ e : Fin 7, if c = fwd d e ∧ s = d then 1 else 0) * N := by
  unfold O₀ owedSnd owedSig
  rw [todo_zero, Pi.add_apply, Finsupp.add_apply, Finset.sum_apply, Finset.sum_apply, Finsupp.finset_sum_apply, Finsupp.finset_sum_apply,
    Finset.sum_eq_zero (f := fun e => (tallyAt (barCell (fwd d e)) () 1 : CellTallies nD τ sig Unit) (recvCell c s) ()) fun e _ => by
      rw [tallyAt_ne_cell (fun h => recv_ne_bar s (congrArg Prod.snd h)), Finsupp.zero_apply],
    add_zero, Finset.sum_mul]
  refine Finset.sum_congr rfl fun e _ => ?_
  rw [tallyAt_apply, ite_mul, one_mul, zero_mul]
  exact if_congr ⟨fun h => recv_eq_iff.mp h.1, fun h => ⟨recv_eq_iff.mpr h, rfl⟩⟩ rfl rfl

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c : Dev nD) (d : Fin 7) :
    tallyOn (recvCell c (bwd c d)) (launchCredit (Pipeline.owing O₀) 0 (recvCell c (bwd c d)))
      = (tallyAt (recvCell c (bwd c d)) () N : CellTallies nD τ sig Unit) := by
  have h : ∑ s : Dev nD, (∑ e : Fin 7, if c = fwd s e ∧ bwd c d = s then 1 else 0) = 1 := by revert c d; decide
  unfold tallyAt; refine congrArg _ (Finsupp.ext fun u => ?_); cases u
  rw [Pipeline.launchCredit_owing, Finsupp.single_eq_same, Finset.sum_congr rfl fun s _ => owed_recv s c (bwd c d), ← Finset.sum_mul, h, one_mul]

/-- Device `c`'s arrival semaphores, by hop. -/
def arrivals (c : Dev nD) : Fin 7 ↪ SemLoc sig := ⟨fun d => SemLoc.dma (recvS (bwd c d)), fun d e h =>
  bwd_inj c _ _ (Sum.inr_injective (Option.some_injective _ (csem_inj (a₁ := some (.inr (bwd c d))) (a₂ := some (.inr (bwd c e))) h)))⟩

/-- The launch credit holds what others owe the device. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map (arrivals c)) (fun x hx => ?_)).trans ?_
  · obtain ⟨d, -, rfl⟩ := Finset.mem_map.1 hx
    exact Finset.mem_erase.mpr ⟨recv_ne_bar _, Finset.mem_univ _⟩
  · rw [bigSep_map]
    exact bigSep_mono fun d _ => Entails.of_eq (congrArg cred (launch_recv c d))

end Cert.KernelIdeal.Own
-- ==== Proof.Run.lean ====
/-
The run of the whole program: every execution ends, with the output block of every device as computed, the arguments
unchanged and all counters at zero.
-/
module

public import proofs.«01_k».proof.Proof.Launch
public import Idealize.ShloMosaic.Lib.Pipeline.CollectiveSegs

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
theorem share_eq (c : Dev nD) (w : Fin cfg0.W) : (dats m ρ 0 c).share w = fullShare := by unfold Dat.share; split <;> rfl

/-- What a device gets at launch is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' records
  iintro ⟨-, Hlev, Hcr, -, ⟨%K, HI, Hrest⟩⟩
  ihave Hc := (creds_intro (F := F) c) $$ Hcr
  imodintro
  isplitl
  · isplitr [Hc]
    · iexists K
      isplitl [HI Hlev]
      · isplitl [HI]; · iexact HI
        iexact Hlev
      · iexact Hrest
    · iexact Hc
  · iempintro

/-- With its send buffer that is what the call starts with. -/
theorem call_start (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ ∃ f, sendPts c f) from rfl, scopedRest0_eq]
  iintro ⟨Hs, -, ⟨%f, Hr⟩⟩
  isplitl [Hs]; · iexact Hs
  iexists f; unfold sendPts; iexact Hr

/-- What the call ends with is all counters at zero and the send buffer. -/
theorem call_end (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = finish m ρ c from rfl, scopedRest0_eq]
  unfold finish
  rw [sems_eq]
  iintro ⟨Hr, HB, HS⟩
  isplitl [HB]; · iexact HB
  isplitl [HS]; · iexact HS
  iexists (sendAt m ρ c); unfold sendPts; iexact Hr

/-- The pipeline's waits are below what is owed meanwhile. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The arrays after the run. -/
def finalA (c : Dev nD) (w : Fin cfg0.W) : Buf (Elt F) ((cfg0.win w).arr.view.loc (c : Thread nD τ)) := (dats m ρ 0 c).arrAt w cfg0.N

/-- From any memory with zero counters, every fair execution ends, each array at its final contents and every counter at
    zero. -/
theorem run_arrays : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := call_start m ρ) (hout := call_end m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays, by name -/

/-- The arguments are unchanged. -/
theorem final_x (c : Dev nD) : finalA m ρ c (0 : Fin 3) = m ((c : Thread nD τ).loc main_arg0) :=
  (dats (F := F) m ρ 0 c).arrAt_in (0 : Fin 3) rfl _
theorem final_w (c : Dev nD) : finalA m ρ c (1 : Fin 3) = m ((c : Thread nD τ).loc main_arg1) :=
  (dats (F := F) m ρ 0 c).arrAt_in (1 : Fin 3) rfl _

/-- Each window's one block is its whole array. -/
theorem read_arg0 (f : (main_arg0 : Ref sig .tc).ty.Contents (Elt F)) : (win0_0.blk (0 : Fin 1)).view.read (Elt F) f = f :=
  Memref.read_access_unit_zero (Elt F) main_arg0 (funext fun a => by fin_cases a <;> decide) (fun a => by fin_cases a <;> decide) f
theorem read_arg1 (f : (main_arg1 : Ref sig .tc).ty.Contents (Elt F)) : (win0_1.blk (0 : Fin 1)).view.read (Elt F) f = f :=
  Memref.read_access_unit_zero (Elt F) main_arg1 (funext fun a => by fin_cases a <;> decide) (fun a => by fin_cases a <;> decide) f
theorem read_res (f : (main_v1 : Ref sig .tc).ty.Contents (Elt F)) : (win0_2.blk (0 : Fin 1)).view.read (Elt F) f = f :=
  Memref.read_access_unit_zero (Elt F) main_v1 (funext fun a => by fin_cases a <;> decide) (fun a => by fin_cases a <;> decide) f

/-- The result is the output block as computed. -/
theorem final_res (c : Dev nD) : finalA m ρ c (2 : Fin 3) = outAt m ρ c := by
  rw [← read_res (finalA m ρ c (2 : Fin 3))]
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 _, if_pos rfl]
  exact View.read_write_univ _ _

/-- What device `c` reads is its arguments. -/
theorem xstg_eq (c : Dev nD) : xstg m ρ c = m ((c : Thread nD τ).loc main_arg0) := read_arg0 _
theorem wstg_eq (c : Dev nD) : wstg m ρ c = m ((c : Thread nD τ).loc main_arg1) := read_arg1 _

/-- Device `c`'s activated product, of its arguments as launched. -/
theorem yAt_eq (c : Dev nD) :
    yAt m ρ c = k0_pay2 (k0_pay1 (m ((c : Thread nD τ).loc main_arg0))) (m ((c : Thread nD τ).loc main_arg1)) := by
  unfold yAt; rw [xstg_eq, wstg_eq]

/-- From any memory with zero counters, every fair execution ends with each device's result as computed, its arguments
    unchanged and every counter at zero. -/
theorem run_main : θ_run defs (onTc (τ := τ) (main (F := F))) ⟨m, fun _ => 0, ρ⟩ (fun r =>
    (∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (2 : Fin 3)).trans (final_res m ρ c),
    (h.1 c (0 : Fin 3)).trans (final_x m ρ c), (h.1 c (1 : Fin 3)).trans (final_w m ρ c)⟩, h.2⟩) (run_arrays m ρ)

end Cert.KernelIdeal.Own
-- ==== Proof.Value.lean ====
/-
Over the extended reals: one activated entry of a matrix product, and that both the kernel's block and the reference
compute it.
-/
module

public import proofs.«01_k».proof.Proof.Contents
public import proofs.«01_k».proof.Proof.Gen.ReferenceIdeal.Run
public import Idealize.ShloMosaic.Lib.MatmulPlain
public import Idealize.ShloMosaic.Lib.StackMember
public import Idealize.ShloMosaic.Lib.Pipeline.Value

@[expose] public section

set_option maxRecDepth 16384

noncomputable section

namespace Cert.KernelIdeal.Own

open Idealize.ShloMosaic Idealize.ShloMosaic.ValueIdx
open scoped BigOperators

/-- Entry `(a, b)` of the product of `x` and `w`, its negative part cut off. -/
def entry {n : ℕ} (x : (⟨2, ![n, 1024]⟩ : Shape).Idx → EReal) (w : (⟨2, ![1024, 1024]⟩ : Shape).Idx → EReal) (a : Fin n) (b : Fin 1024) : EReal :=
  max (∑ k : Fin 1024, x (ix2 a k) * w (ix2 k b)) 0

/-- The kernel's activated product of a block, entry by entry. -/
theorem block_entry (x : FVec Ideal S128x1024 .bf16) (w : FVec Ideal S1024x1024 .bf16) (a : Fin 128) (b : Fin 1024) :
    Gen.k0_pay2 (F := Ideal) (Gen.k0_pay1 x) w (ix2 a b) = entry x w a b := by
  have h1 : Gen.k0_pay1 (F := Ideal) x = x := shapeCast_self _ _
  rw [h1]
  show max (FloatOps.matmul (DotDims.plain 128 1024 1024) none x (shapeCast S1024x1024 w Facts₀.shapeCasts_S1024x1024_S1024x1024)
      (constant S128x1024 .f32 0x00000000#32) (ix2 a b)) (Ideal.ofBits .f32 0x00000000#32) = entry x w a b
  rw [shapeCast_self, Ideal.matmul_plain_apply, Ideal.ofBits_zero_f32]
  show max (Ideal.ofBits .f32 0x00000000#32 + _) 0 = _
  rw [Ideal.ofBits_zero_f32, zero_add]
  rfl

/-- The reference's result of `x` and `w`. -/
abbrev refOf (x w : FVec Ideal Cert.ReferenceIdeal.S1024x1024 .bf16) : FVec Ideal Cert.ReferenceIdeal.S1024x1024 .bf16 :=
  truncf .bf16 (maximumf (extf .f32 (truncf .bf16 (Host.dotGeneral Cert.ReferenceIdeal.dot_S1024x1024_S1024x1024_S1024x1024_1_0_0_1_n_n none x w)
    Cert.ReferenceIdeal.Facts₀.bitsLt_bf16_f32) Cert.ReferenceIdeal.Facts₀.bitsLt_bf16_f32)
    (broadcastInDim Cert.ReferenceIdeal.S1024x1024 ![] Cert.ReferenceIdeal.Facts₀.bcast_S_S1024x1024 (constant Cert.ReferenceIdeal.S_ .f32 0x00000000#32)))
    Cert.ReferenceIdeal.Facts₀.bitsLt_bf16_f32

/-- The reference's result, entry by entry. -/
theorem ref_entry (x w : FVec Ideal Cert.ReferenceIdeal.S1024x1024 .bf16) (a b : Fin 1024) : refOf x w (ix2 a b) = entry x w a b := by
  show max (Host.dotGeneral (DotDims.plain 1024 1024 1024) none x w (ix2 a b)) (Ideal.ofBits .f32 0x00000000#32) = entry x w a b
  rw [StackMember.dotGeneral_plain_apply, Ideal.ofBits_zero_f32]
  rfl

end Cert.KernelIdeal.Own
-- ==== Proof.Equation.lean ====
/-
The equation: when every device has its block of `x`'s rows and all of `w`, the output block of device `c` is block `c`
of the columns of the reference's result.
-/
module

public import proofs.«01_k».proof.Proof.Value
public import Idealize.ShloMosaic.Lib.Layout

@[expose] public section

set_option maxRecDepth 16384

noncomputable section

namespace Cert.KernelIdeal.Own

open Idealize.ShloMosaic Idealize.ShloMosaic.ValueIdx

/-- Two indices of the whole array with the same row and column are the same. -/
theorem whole_ext (i k : (⟨2, ![1024, 1024]⟩ : Shape).Idx) (h0 : (i 0).val = (k 0).val) (h1 : (i 1).val = (k 1).val) : i = k :=
  funext fun a => Fin.ext (match a with
    | ⟨0, _⟩ => h0
    | ⟨1, _⟩ => h1)

/-- An entry of block `s` of the rows is the entry of the whole `128 s` rows below. -/
theorem entry_block (s : Dev nD) (x w : (⟨2, ![1024, 1024]⟩ : Shape).Idx → EReal) (a : Fin 128) (r : Fin 1024) (hr : r.val = s.val * 128 + a.val)
    (b : Fin 1024) : entry (Layout.block ⟨2, ![128, 1024]⟩ ⟨2, ![1024, 1024]⟩ 0 8 s x) w a b = entry x w r b := by
  unfold entry
  refine congrArg (max · 0) (Finset.sum_congr rfl fun k _ => congrArg (· * _) ?_)
  rw [Layout.block_apply]
  exact congrArg x (whole_ext _ _ hr.symm rfl)

/-- The output blocks are the reference's result, cut by columns. -/
theorem out_block (c : Dev nD) (x w : FVec Ideal Cert.ReferenceIdeal.S1024x1024 .bf16) (y : Dev nD → Prod Ideal)
    (hy : ∀ s, y s = Gen.k0_pay2 (F := Ideal) (Gen.k0_pay1 (Layout.block ⟨2, ![128, 1024]⟩ ⟨2, ![1024, 1024]⟩ 0 8 s x)) w) :
    outOf y c = Layout.block ⟨2, ![1024, 128]⟩ ⟨2, ![1024, 1024]⟩ 1 8 c (refOf x w) := by
  funext i
  have hi : (i 0).val = (bandOf i).val * 128 + (inBand i).val := by
    show (i 0).val = (i 0).val / 128 * 128 + (i 0).val % 128
    omega
  have hc : c.val < 8 := c.isLt
  have hl : (i 1).val < 128 := (i 1).isLt
  rw [Layout.block_apply]
  unfold outOf sendOf
  rw [hy, block_entry, entry_block (bandOf i) x w (inBand i) (i 0) hi]
  refine (ref_entry x w (i 0) ⟨128 * c.val + (i 1).val, by omega⟩).symm.trans (congrArg (refOf x w) ?_)
  exact (whole_ext _ _ rfl (by show 128 * c.val + (i 1).val = c.val * 128 + (i 1).val; omega))

end Cert.KernelIdeal.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Device.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The printed kernel ends everywhere, with its arguments unchanged and its counters at zero. -/
theorem frame_kernel : quiescent_Kernel := fun m g _ =>
  (θ_run _ _ _).mono (fun _ h => ⟨fun c => (h.1 c).2, h.2⟩) (Cert.Kernel.Own.run_main (F := Bits) m g)

/-- So does its ideal. -/
theorem frame_ideal : quiescent_KernelIdeal := fun m g _ =>
  (θ_run _ _ _).mono (fun _ h => ⟨fun c => (h.1 c).2, h.2⟩) (Cert.KernelIdeal.Own.run_main (F := Ideal) m g)

/-- The reference ends with its arguments unchanged; it has no counters. -/
theorem frame_reference : quiescent_ReferenceIdeal := fun m g _ =>
  (θ_run _ _ _).mono (fun r h => ⟨fun c => (h c).2, Idealize.ShloMosaic.sem_eq_zero_of_no_sems (by decide) r.2⟩)
    (Cert.ReferenceIdeal.Value.run (F := Ideal) m g)

/-- From blocks of the rows of `x` and copies of `w`, the devices end with the blocks of columns of the reference's result. -/
theorem same_function : algebraic_KernelIdeal_ReferenceIdeal := fun m g m' g' _ hm =>
  ⟨Cert.KernelIdeal.Own.refOf (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨(h.1 c).1.trans (Cert.KernelIdeal.Own.out_block c _ _ _ fun s =>
        (Cert.KernelIdeal.Own.yAt_eq m g s).trans (congrArg₂ (fun x w => Cert.KernelIdeal.Gen.k0_pay2 (F := Ideal) (Cert.KernelIdeal.Gen.k0_pay1 x) w)
          (hm s).1 (hm s).2)), (h.1 c).2⟩) (Cert.KernelIdeal.Own.run_main (F := Ideal) m g),
    (θ_run _ _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, frame_kernel, frame_ideal, frame_reference, trivial,
    same_function⟩

end Cert.Proof

end
